-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x50 : Shape := ⟨2, ![1024, 50]⟩
abbrev S30x2048 : Shape := ⟨2, ![30, 2048]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S30x2048 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 30#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S30x2048 : Shape := ⟨2, ![30, 2048]⟩
abbrev S50x1024 : Shape := ⟨2, ![50, 1024]⟩
abbrev S51200 : Shape := ⟨1, ![51200]⟩
abbrev S51200x2048 : Shape := ⟨2, ![51200, 2048]⟩
abbrev S1600 : Shape := ⟨1, ![1600]⟩
abbrev S_ : Shape := ⟨0, ![]⟩
abbrev S16 : Shape := ⟨1, ![16]⟩
abbrev S1 : Shape := ⟨1, ![1]⟩
abbrev S1x2048 : Shape := ⟨2, ![1, 2048]⟩
abbrev S2048 : Shape := ⟨1, ![2048]⟩
abbrev S50x1024x2048 : Shape := ⟨3, ![50, 1024, 2048]⟩
abbrev S1024x50x2048 : Shape := ⟨3, ![1024, 50, 2048]⟩

abbrev nBuf : Table → Nat
  | .hbm => 7
  | .local .scVector .vmem => 2
  | _ => 0

abbrev bufTy : (tb : Table) → Fin (nBuf tb) → BufTy
  | .hbm, ⟨0, _⟩ => ⟨S1024x50, .i32⟩
  | .hbm, ⟨1, _⟩ => ⟨S30x2048, .f32⟩
  | .hbm, ⟨2, _⟩ => ⟨S50x1024, .i32⟩
  | .hbm, ⟨3, _⟩ => ⟨S51200, .i32⟩
  | .hbm, ⟨4, _⟩ => ⟨S51200x2048, .f32⟩
  | .hbm, ⟨5, _⟩ => ⟨S50x1024x2048, .f32⟩
  | .hbm, ⟨6, _⟩ => ⟨S1024x50x2048, .f32⟩
  | .local .scVector .vmem, ⟨0, _⟩ => ⟨S1600, .i32⟩
  | .local .scVector .vmem, ⟨1, _⟩ => ⟨S30x2048, .f32⟩
  | _, _ => ⟨S1024x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
def k0_off2 (v6 : BitVec 32) : Fin 2 → Nat :=
  let c0_i32_0 : BitVec 32 := 0#32
  ![v6.toNat, 0]

def k0_chk1 (v6 : BitVec 32) : Prop :=
  (∀ a, (k0_off2 v6) a + S1x2048.size a ≤ S30x2048.size a)
theorem k0_off2_inb : ∀ (v6 : BitVec 32) (k0_hw1 : k0_chk1 v6), ∀ a, (k0_off2 v6) a + S1x2048.size a ≤ S30x2048.size a := fun v6 k0_hw1 => k0_hw1

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32 : BitVec 32 := 0#32
  let v7 : BitVec 32 := Scalar.addi v2 c0_i32
  let c0_i32_1 : BitVec 32 := 0#32
  ![v7.toNat, 0]
def k0_off4 (v17 : BitVec 32) : Fin 2 → Nat :=
  let c0_i32_4 : BitVec 32 := 0#32
  ![v17.toNat, 0]

def k0_chk2 (v17 : BitVec 32) : Prop :=
  (∀ a, (k0_off4 v17) a + S1x2048.size a ≤ S30x2048.size a)
theorem k0_off4_inb : ∀ (v17 : BitVec 32) (k0_hw2 : k0_chk2 v17), ∀ a, (k0_off4 v17) a + S1x2048.size a ≤ S30x2048.size a := fun v17 k0_hw2 => k0_hw2

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32 : BitVec 32 := 1#32
  let v18 : BitVec 32 := Scalar.addi v2 c1_i32
  let c0_i32_5 : BitVec 32 := 0#32
  ![v18.toNat, 0]
def k0_off6 (v28 : BitVec 32) : Fin 2 → Nat :=
  let c0_i32_9 : BitVec 32 := 0#32
  ![v28.toNat, 0]

def k0_chk3 (v28 : BitVec 32) : Prop :=
  (∀ a, (k0_off6 v28) a + S1x2048.size a ≤ S30x2048.size a)
theorem k0_off6_inb : ∀ (v28 : BitVec 32) (k0_hw3 : k0_chk3 v28), ∀ a, (k0_off6 v28) a + S1x2048.size a ≤ S30x2048.size a := fun v28 k0_hw3 => k0_hw3

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c2_i32_8 : BitVec 32 := 2#32
  let v29 : BitVec 32 := Scalar.addi v2 c2_i32_8
  let c0_i32_10 : BitVec 32 := 0#32
  ![v29.toNat, 0]
def k0_off8 (v39 : BitVec 32) : Fin 2 → Nat :=
  let c0_i32_13 : BitVec 32 := 0#32
  ![v39.toNat, 0]

def k0_chk4 (v39 : BitVec 32) : Prop :=
  (∀ a, (k0_off8 v39) a + S1x2048.size a ≤ S30x2048.size a)
theorem k0_off8_inb : ∀ (v39 : BitVec 32) (k0_hw4 : k0_chk4 v39), ∀ a, (k0_off8 v39) a + S1x2048.size a ≤ S30x2048.size a := fun v39 k0_hw4 => k0_hw4

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c3_i32 : BitVec 32 := 3#32
  let v40 : BitVec 32 := Scalar.addi v2 c3_i32
  let c0_i32_14 : BitVec 32 := 0#32
  ![v40.toNat, 0]
def k0_off10 (v50 : BitVec 32) : Fin 2 → Nat :=
  let c0_i32_17 : BitVec 32 := 0#32
  ![v50.toNat, 0]

def k0_chk5 (v50 : BitVec 32) : Prop :=
  (∀ a, (k0_off10 v50) a + S1x2048.size a ≤ S30x2048.size a)
theorem k0_off10_inb : ∀ (v50 : BitVec 32) (k0_hw5 : k0_chk5 v50), ∀ a, (k0_off10 v50) a + S1x2048.size a ≤ S30x2048.size a := fun v50 k0_hw5 => k0_hw5

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c4_i32 : BitVec 32 := 4#32
  let v51 : BitVec 32 := Scalar.addi v2 c4_i32
  let c0_i32_18 : BitVec 32 := 0#32
  ![v51.toNat, 0]
def k0_off12 (v61 : BitVec 32) : Fin 2 → Nat :=
  let c0_i32_21 : BitVec 32 := 0#32
  ![v61.toNat, 0]

def k0_chk6 (v61 : BitVec 32) : Prop :=
  (∀ a, (k0_off12 v61) a + S1x2048.size a ≤ S30x2048.size a)
theorem k0_off12_inb : ∀ (v61 : BitVec 32) (k0_hw6 : k0_chk6 v61), ∀ a, (k0_off12 v61) a + S1x2048.size a ≤ S30x2048.size a := fun v61 k0_hw6 => k0_hw6

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c5_i32 : BitVec 32 := 5#32
  let v62 : BitVec 32 := Scalar.addi v2 c5_i32
  let c0_i32_22 : BitVec 32 := 0#32
  ![v62.toNat, 0]
def k0_off14 (v72 : BitVec 32) : Fin 2 → Nat :=
  let c0_i32_25 : BitVec 32 := 0#32
  ![v72.toNat, 0]

def k0_chk7 (v72 : BitVec 32) : Prop :=
  (∀ a, (k0_off14 v72) a + S1x2048.size a ≤ S30x2048.size a)
theorem k0_off14_inb : ∀ (v72 : BitVec 32) (k0_hw7 : k0_chk7 v72), ∀ a, (k0_off14 v72) a + S1x2048.size a ≤ S30x2048.size a := fun v72 k0_hw7 => k0_hw7

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c6_i32 : BitVec 32 := 6#32
  let v73 : BitVec 32 := Scalar.addi v2 c6_i32
  let c0_i32_26 : BitVec 32 := 0#32
  ![v73.toNat, 0]
def k0_off16 (v83 : BitVec 32) : Fin 2 → Nat :=
  let c0_i32_29 : BitVec 32 := 0#32
  ![v83.toNat, 0]

def k0_chk8 (v83 : BitVec 32) : Prop :=
  (∀ a, (k0_off16 v83) a + S1x2048.size a ≤ S30x2048.size a)
theorem k0_off16_inb : ∀ (v83 : BitVec 32) (k0_hw8 : k0_chk8 v83), ∀ a, (k0_off16 v83) a + S1x2048.size a ≤ S30x2048.size a := fun v83 k0_hw8 => k0_hw8

def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c7_i32 : BitVec 32 := 7#32
  let v84 : BitVec 32 := Scalar.addi v2 c7_i32
  let c0_i32_30 : BitVec 32 := 0#32
  ![v84.toNat, 0]
def k0_off18 (v94 : BitVec 32) : Fin 2 → Nat :=
  let c0_i32_33 : BitVec 32 := 0#32
  ![v94.toNat, 0]

def k0_chk9 (v94 : BitVec 32) : Prop :=
  (∀ a, (k0_off18 v94) a + S1x2048.size a ≤ S30x2048.size a)
theorem k0_off18_inb : ∀ (v94 : BitVec 32) (k0_hw9 : k0_chk9 v94), ∀ a, (k0_off18 v94) a + S1x2048.size a ≤ S30x2048.size a := fun v94 k0_hw9 => k0_hw9

def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c8_i32 : BitVec 32 := 8#32
  let v95 : BitVec 32 := Scalar.addi v2 c8_i32
  let c0_i32_34 : BitVec 32 := 0#32
  ![v95.toNat, 0]
def k0_off20 (v105 : BitVec 32) : Fin 2 → Nat :=
  let c0_i32_37 : BitVec 32 := 0#32
  ![v105.toNat, 0]

def k0_chk10 (v105 : BitVec 32) : Prop :=
  (∀ a, (k0_off20 v105) a + S1x2048.size a ≤ S30x2048.size a)
theorem k0_off20_inb : ∀ (v105 : BitVec 32) (k0_hw10 : k0_chk10 v105), ∀ a, (k0_off20 v105) a + S1x2048.size a ≤ S30x2048.size a := fun v105 k0_hw10 => k0_hw10

def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c9_i32 : BitVec 32 := 9#32
  let v106 : BitVec 32 := Scalar.addi v2 c9_i32
  let c0_i32_38 : BitVec 32 := 0#32
  ![v106.toNat, 0]
def k0_off22 (v116 : BitVec 32) : Fin 2 → Nat :=
  let c0_i32_41 : BitVec 32 := 0#32
  ![v116.toNat, 0]

def k0_chk11 (v116 : BitVec 32) : Prop :=
  (∀ a, (k0_off22 v116) a + S1x2048.size a ≤ S30x2048.size a)
theorem k0_off22_inb : ∀ (v116 : BitVec 32) (k0_hw11 : k0_chk11 v116), ∀ a, (k0_off22 v116) a + S1x2048.size a ≤ S30x2048.size a := fun v116 k0_hw11 => k0_hw11

def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c10_i32 : BitVec 32 := 10#32
  let v117 : BitVec 32 := Scalar.addi v2 c10_i32
  let c0_i32_42 : BitVec 32 := 0#32
  ![v117.toNat, 0]
def k0_off24 (v127 : BitVec 32) : Fin 2 → Nat :=
  let c0_i32_45 : BitVec 32 := 0#32
  ![v127.toNat, 0]

def k0_chk12 (v127 : BitVec 32) : Prop :=
  (∀ a, (k0_off24 v127) a + S1x2048.size a ≤ S30x2048.size a)
theorem k0_off24_inb : ∀ (v127 : BitVec 32) (k0_hw12 : k0_chk12 v127), ∀ a, (k0_off24 v127) a + S1x2048.size a ≤ S30x2048.size a := fun v127 k0_hw12 => k0_hw12

def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c11_i32 : BitVec 32 := 11#32
  let v128 : BitVec 32 := Scalar.addi v2 c11_i32
  let c0_i32_46 : BitVec 32 := 0#32
  ![v128.toNat, 0]
def k0_off26 (v138 : BitVec 32) : Fin 2 → Nat :=
  let c0_i32_49 : BitVec 32 := 0#32
  ![v138.toNat, 0]

def k0_chk13 (v138 : BitVec 32) : Prop :=
  (∀ a, (k0_off26 v138) a + S1x2048.size a ≤ S30x2048.size a)
theorem k0_off26_inb : ∀ (v138 : BitVec 32) (k0_hw13 : k0_chk13 v138), ∀ a, (k0_off26 v138) a + S1x2048.size a ≤ S30x2048.size a := fun v138 k0_hw13 => k0_hw13

def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c12_i32 : BitVec 32 := 12#32
  let v139 : BitVec 32 := Scalar.addi v2 c12_i32
  let c0_i32_50 : BitVec 32 := 0#32
  ![v139.toNat, 0]
def k0_off28 (v149 : BitVec 32) : Fin 2 → Nat :=
  let c0_i32_53 : BitVec 32 := 0#32
  ![v149.toNat, 0]

def k0_chk14 (v149 : BitVec 32) : Prop :=
  (∀ a, (k0_off28 v149) a + S1x2048.size a ≤ S30x2048.size a)
theorem k0_off28_inb : ∀ (v149 : BitVec 32) (k0_hw14 : k0_chk14 v149), ∀ a, (k0_off28 v149) a + S1x2048.size a ≤ S30x2048.size a := fun v149 k0_hw14 => k0_hw14

def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c13_i32 : BitVec 32 := 13#32
  let v150 : BitVec 32 := Scalar.addi v2 c13_i32
  let c0_i32_54 : BitVec 32 := 0#32
  ![v150.toNat, 0]
def k0_off30 (v160 : BitVec 32) : Fin 2 → Nat :=
  let c0_i32_57 : BitVec 32 := 0#32
  ![v160.toNat, 0]

def k0_chk15 (v160 : BitVec 32) : Prop :=
  (∀ a, (k0_off30 v160) a + S1x2048.size a ≤ S30x2048.size a)
theorem k0_off30_inb : ∀ (v160 : BitVec 32) (k0_hw15 : k0_chk15 v160), ∀ a, (k0_off30 v160) a + S1x2048.size a ≤ S30x2048.size a := fun v160 k0_hw15 => k0_hw15

def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c14_i32 : BitVec 32 := 14#32
  let v161 : BitVec 32 := Scalar.addi v2 c14_i32
  let c0_i32_58 : BitVec 32 := 0#32
  ![v161.toNat, 0]
def k0_off32 (v171 : BitVec 32) : Fin 2 → Nat :=
  let c0_i32_61 : BitVec 32 := 0#32
  ![v171.toNat, 0]

def k0_chk16 (v171 : BitVec 32) : Prop :=
  (∀ a, (k0_off32 v171) a + S1x2048.size a ≤ S30x2048.size a)
theorem k0_off32_inb : ∀ (v171 : BitVec 32) (k0_hw16 : k0_chk16 v171), ∀ a, (k0_off32 v171) a + S1x2048.size a ≤ S30x2048.size a := fun v171 k0_hw16 => k0_hw16

def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c15_i32 : BitVec 32 := 15#32
  let v172 : BitVec 32 := Scalar.addi v2 c15_i32
  let c0_i32_62 : BitVec 32 := 0#32
  ![v172.toNat, 0]
@[reducible] def k0_t1_loop : Scf.Loop 32 :=
  let c1_i32_66 : BitVec 32 := 1#32
  let c99_i32 : BitVec 32 := 99#32
  let v181 : BitVec 32 := Scalar.addi c1_i32_66 c99_i32
  let c1_i32_67 : BitVec 32 := 1#32
  ⟨c1_i32_66, v181, c1_i32_67⟩
def k0_off34 (k0_t1 : Fin k0_t1_loop.trips) : Fin 1 → Nat :=
  let c1_i32_66 : BitVec 32 := 1#32
  let c1_i32_67 : BitVec 32 := 1#32
  let arg8 : BitVec 32 := Scf.iv c1_i32_66 c1_i32_67 k0_t1
  let c16_i32_73 : BitVec 32 := 16#32
  let v183 : BitVec 32 := Scalar.muli arg8 c16_i32_73
  let v184 : Index := Scalar.indexCast v183
  ![v184.toNat]
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_76 : BitVec 32 := 0#32
  ![v2.toNat, 0]
def k0_off36 (v198 : BitVec 32) : Fin 2 → Nat :=
  let c0_i32_81 : BitVec 32 := 0#32
  ![v198.toNat, 0]

def k0_chk17 (v198 : BitVec 32) : Prop :=
  (∀ a, (k0_off36 v198) a + S1x2048.size a ≤ S30x2048.size a)
theorem k0_off36_inb : ∀ (v198 : BitVec 32) (k0_hw17 : k0_chk17 v198), ∀ a, (k0_off36 v198) a + S1x2048.size a ≤ S30x2048.size a := fun v198 k0_hw17 => k0_hw17

def k0_off37 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_79 : BitVec 32 := 16#32
  let v195 : BitVec 32 := Scalar.muli arg8 c16_i32_79
  let c0_i32_80 : BitVec 32 := 0#32
  let v196 : BitVec 32 := Scalar.addi v195 c0_i32_80
  let v199 : BitVec 32 := Scalar.addi v2 v196
  let c0_i32_82 : BitVec 32 := 0#32
  ![v199.toNat, 0]
def k0_off38 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_87 : BitVec 32 := 0#32
  ![v2.toNat, 0]
def k0_off39 (v219 : BitVec 32) : Fin 2 → Nat :=
  let c0_i32_92 : BitVec 32 := 0#32
  ![v219.toNat, 0]

def k0_chk18 (v219 : BitVec 32) : Prop :=
  (∀ a, (k0_off39 v219) a + S1x2048.size a ≤ S30x2048.size a)
theorem k0_off39_inb : ∀ (v219 : BitVec 32) (k0_hw18 : k0_chk18 v219), ∀ a, (k0_off39 v219) a + S1x2048.size a ≤ S30x2048.size a := fun v219 k0_hw18 => k0_hw18

def k0_off40 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_90 : BitVec 32 := 16#32
  let v216 : BitVec 32 := Scalar.muli arg8 c16_i32_90
  let c1_i32_91 : BitVec 32 := 1#32
  let v217 : BitVec 32 := Scalar.addi v216 c1_i32_91
  let v220 : BitVec 32 := Scalar.addi v2 v217
  let c0_i32_93 : BitVec 32 := 0#32
  ![v220.toNat, 0]
def k0_off41 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_98 : BitVec 32 := 0#32
  ![v2.toNat, 0]
def k0_off42 (v240 : BitVec 32) : Fin 2 → Nat :=
  let c0_i32_103 : BitVec 32 := 0#32
  ![v240.toNat, 0]

def k0_chk19 (v240 : BitVec 32) : Prop :=
  (∀ a, (k0_off42 v240) a + S1x2048.size a ≤ S30x2048.size a)
theorem k0_off42_inb : ∀ (v240 : BitVec 32) (k0_hw19 : k0_chk19 v240), ∀ a, (k0_off42 v240) a + S1x2048.size a ≤ S30x2048.size a := fun v240 k0_hw19 => k0_hw19

def k0_off43 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_101 : BitVec 32 := 16#32
  let v237 : BitVec 32 := Scalar.muli arg8 c16_i32_101
  let c2_i32_102 : BitVec 32 := 2#32
  let v238 : BitVec 32 := Scalar.addi v237 c2_i32_102
  let v241 : BitVec 32 := Scalar.addi v2 v238
  let c0_i32_104 : BitVec 32 := 0#32
  ![v241.toNat, 0]
def k0_off44 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_109 : BitVec 32 := 0#32
  ![v2.toNat, 0]
def k0_off45 (v261 : BitVec 32) : Fin 2 → Nat :=
  let c0_i32_114 : BitVec 32 := 0#32
  ![v261.toNat, 0]

def k0_chk20 (v261 : BitVec 32) : Prop :=
  (∀ a, (k0_off45 v261) a + S1x2048.size a ≤ S30x2048.size a)
theorem k0_off45_inb : ∀ (v261 : BitVec 32) (k0_hw20 : k0_chk20 v261), ∀ a, (k0_off45 v261) a + S1x2048.size a ≤ S30x2048.size a := fun v261 k0_hw20 => k0_hw20

def k0_off46 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_112 : BitVec 32 := 16#32
  let v258 : BitVec 32 := Scalar.muli arg8 c16_i32_112
  let c3_i32_113 : BitVec 32 := 3#32
  let v259 : BitVec 32 := Scalar.addi v258 c3_i32_113
  let v262 : BitVec 32 := Scalar.addi v2 v259
  let c0_i32_115 : BitVec 32 := 0#32
  ![v262.toNat, 0]
def k0_off47 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_120 : BitVec 32 := 0#32
  ![v2.toNat, 0]
def k0_off48 (v282 : BitVec 32) : Fin 2 → Nat :=
  let c0_i32_125 : BitVec 32 := 0#32
  ![v282.toNat, 0]

def k0_chk21 (v282 : BitVec 32) : Prop :=
  (∀ a, (k0_off48 v282) a + S1x2048.size a ≤ S30x2048.size a)
theorem k0_off48_inb : ∀ (v282 : BitVec 32) (k0_hw21 : k0_chk21 v282), ∀ a, (k0_off48 v282) a + S1x2048.size a ≤ S30x2048.size a := fun v282 k0_hw21 => k0_hw21

def k0_off49 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_123 : BitVec 32 := 16#32
  let v279 : BitVec 32 := Scalar.muli arg8 c16_i32_123
  let c4_i32_124 : BitVec 32 := 4#32
  let v280 : BitVec 32 := Scalar.addi v279 c4_i32_124
  let v283 : BitVec 32 := Scalar.addi v2 v280
  let c0_i32_126 : BitVec 32 := 0#32
  ![v283.toNat, 0]
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_131 : BitVec 32 := 0#32
  ![v2.toNat, 0]
def k0_off51 (v303 : BitVec 32) : Fin 2 → Nat :=
  let c0_i32_136 : BitVec 32 := 0#32
  ![v303.toNat, 0]

def k0_chk22 (v303 : BitVec 32) : Prop :=
  (∀ a, (k0_off51 v303) a + S1x2048.size a ≤ S30x2048.size a)
theorem k0_off51_inb : ∀ (v303 : BitVec 32) (k0_hw22 : k0_chk22 v303), ∀ a, (k0_off51 v303) a + S1x2048.size a ≤ S30x2048.size a := fun v303 k0_hw22 => k0_hw22

def k0_off52 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_134 : BitVec 32 := 16#32
  let v300 : BitVec 32 := Scalar.muli arg8 c16_i32_134
  let c5_i32_135 : BitVec 32 := 5#32
  let v301 : BitVec 32 := Scalar.addi v300 c5_i32_135
  let v304 : BitVec 32 := Scalar.addi v2 v301
  let c0_i32_137 : BitVec 32 := 0#32
  ![v304.toNat, 0]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_142 : BitVec 32 := 0#32
  ![v2.toNat, 0]
def k0_off54 (v324 : BitVec 32) : Fin 2 → Nat :=
  let c0_i32_147 : BitVec 32 := 0#32
  ![v324.toNat, 0]

def k0_chk23 (v324 : BitVec 32) : Prop :=
  (∀ a, (k0_off54 v324) a + S1x2048.size a ≤ S30x2048.size a)
theorem k0_off54_inb : ∀ (v324 : BitVec 32) (k0_hw23 : k0_chk23 v324), ∀ a, (k0_off54 v324) a + S1x2048.size a ≤ S30x2048.size a := fun v324 k0_hw23 => k0_hw23

def k0_off55 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_145 : BitVec 32 := 16#32
  let v321 : BitVec 32 := Scalar.muli arg8 c16_i32_145
  let c6_i32_146 : BitVec 32 := 6#32
  let v322 : BitVec 32 := Scalar.addi v321 c6_i32_146
  let v325 : BitVec 32 := Scalar.addi v2 v322
  let c0_i32_148 : BitVec 32 := 0#32
  ![v325.toNat, 0]
def k0_off56 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_153 : BitVec 32 := 0#32
  ![v2.toNat, 0]
def k0_off57 (v345 : BitVec 32) : Fin 2 → Nat :=
  let c0_i32_158 : BitVec 32 := 0#32
  ![v345.toNat, 0]

def k0_chk24 (v345 : BitVec 32) : Prop :=
  (∀ a, (k0_off57 v345) a + S1x2048.size a ≤ S30x2048.size a)
theorem k0_off57_inb : ∀ (v345 : BitVec 32) (k0_hw24 : k0_chk24 v345), ∀ a, (k0_off57 v345) a + S1x2048.size a ≤ S30x2048.size a := fun v345 k0_hw24 => k0_hw24

def k0_off58 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_156 : BitVec 32 := 16#32
  let v342 : BitVec 32 := Scalar.muli arg8 c16_i32_156
  let c7_i32_157 : BitVec 32 := 7#32
  let v343 : BitVec 32 := Scalar.addi v342 c7_i32_157
  let v346 : BitVec 32 := Scalar.addi v2 v343
  let c0_i32_159 : BitVec 32 := 0#32
  ![v346.toNat, 0]
def k0_off59 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_164 : BitVec 32 := 0#32
  ![v2.toNat, 0]
def k0_off60 (v366 : BitVec 32) : Fin 2 → Nat :=
  let c0_i32_169 : BitVec 32 := 0#32
  ![v366.toNat, 0]

def k0_chk25 (v366 : BitVec 32) : Prop :=
  (∀ a, (k0_off60 v366) a + S1x2048.size a ≤ S30x2048.size a)
theorem k0_off60_inb : ∀ (v366 : BitVec 32) (k0_hw25 : k0_chk25 v366), ∀ a, (k0_off60 v366) a + S1x2048.size a ≤ S30x2048.size a := fun v366 k0_hw25 => k0_hw25

def k0_off61 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_167 : BitVec 32 := 16#32
  let v363 : BitVec 32 := Scalar.muli arg8 c16_i32_167
  let c8_i32_168 : BitVec 32 := 8#32
  let v364 : BitVec 32 := Scalar.addi v363 c8_i32_168
  let v367 : BitVec 32 := Scalar.addi v2 v364
  let c0_i32_170 : BitVec 32 := 0#32
  ![v367.toNat, 0]
def k0_off62 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_175 : BitVec 32 := 0#32
  ![v2.toNat, 0]
def k0_off63 (v387 : BitVec 32) : Fin 2 → Nat :=
  let c0_i32_180 : BitVec 32 := 0#32
  ![v387.toNat, 0]

def k0_chk26 (v387 : BitVec 32) : Prop :=
  (∀ a, (k0_off63 v387) a + S1x2048.size a ≤ S30x2048.size a)
theorem k0_off63_inb : ∀ (v387 : BitVec 32) (k0_hw26 : k0_chk26 v387), ∀ a, (k0_off63 v387) a + S1x2048.size a ≤ S30x2048.size a := fun v387 k0_hw26 => k0_hw26

def k0_off64 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_178 : BitVec 32 := 16#32
  let v384 : BitVec 32 := Scalar.muli arg8 c16_i32_178
  let c9_i32_179 : BitVec 32 := 9#32
  let v385 : BitVec 32 := Scalar.addi v384 c9_i32_179
  let v388 : BitVec 32 := Scalar.addi v2 v385
  let c0_i32_181 : BitVec 32 := 0#32
  ![v388.toNat, 0]
def k0_off65 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_186 : BitVec 32 := 0#32
  ![v2.toNat, 0]
def k0_off66 (v408 : BitVec 32) : Fin 2 → Nat :=
  let c0_i32_191 : BitVec 32 := 0#32
  ![v408.toNat, 0]

def k0_chk27 (v408 : BitVec 32) : Prop :=
  (∀ a, (k0_off66 v408) a + S1x2048.size a ≤ S30x2048.size a)
theorem k0_off66_inb : ∀ (v408 : BitVec 32) (k0_hw27 : k0_chk27 v408), ∀ a, (k0_off66 v408) a + S1x2048.size a ≤ S30x2048.size a := fun v408 k0_hw27 => k0_hw27

def k0_off67 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_189 : BitVec 32 := 16#32
  let v405 : BitVec 32 := Scalar.muli arg8 c16_i32_189
  let c10_i32_190 : BitVec 32 := 10#32
  let v406 : BitVec 32 := Scalar.addi v405 c10_i32_190
  let v409 : BitVec 32 := Scalar.addi v2 v406
  let c0_i32_192 : BitVec 32 := 0#32
  ![v409.toNat, 0]
def k0_off68 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_197 : BitVec 32 := 0#32
  ![v2.toNat, 0]
def k0_off69 (v429 : BitVec 32) : Fin 2 → Nat :=
  let c0_i32_202 : BitVec 32 := 0#32
  ![v429.toNat, 0]

def k0_chk28 (v429 : BitVec 32) : Prop :=
  (∀ a, (k0_off69 v429) a + S1x2048.size a ≤ S30x2048.size a)
theorem k0_off69_inb : ∀ (v429 : BitVec 32) (k0_hw28 : k0_chk28 v429), ∀ a, (k0_off69 v429) a + S1x2048.size a ≤ S30x2048.size a := fun v429 k0_hw28 => k0_hw28

def k0_off70 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_200 : BitVec 32 := 16#32
  let v426 : BitVec 32 := Scalar.muli arg8 c16_i32_200
  let c11_i32_201 : BitVec 32 := 11#32
  let v427 : BitVec 32 := Scalar.addi v426 c11_i32_201
  let v430 : BitVec 32 := Scalar.addi v2 v427
  let c0_i32_203 : BitVec 32 := 0#32
  ![v430.toNat, 0]
def k0_off71 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_208 : BitVec 32 := 0#32
  ![v2.toNat, 0]
def k0_off72 (v450 : BitVec 32) : Fin 2 → Nat :=
  let c0_i32_213 : BitVec 32 := 0#32
  ![v450.toNat, 0]

def k0_chk29 (v450 : BitVec 32) : Prop :=
  (∀ a, (k0_off72 v450) a + S1x2048.size a ≤ S30x2048.size a)
theorem k0_off72_inb : ∀ (v450 : BitVec 32) (k0_hw29 : k0_chk29 v450), ∀ a, (k0_off72 v450) a + S1x2048.size a ≤ S30x2048.size a := fun v450 k0_hw29 => k0_hw29

def k0_off73 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_211 : BitVec 32 := 16#32
  let v447 : BitVec 32 := Scalar.muli arg8 c16_i32_211
  let c12_i32_212 : BitVec 32 := 12#32
  let v448 : BitVec 32 := Scalar.addi v447 c12_i32_212
  let v451 : BitVec 32 := Scalar.addi v2 v448
  let c0_i32_214 : BitVec 32 := 0#32
  ![v451.toNat, 0]
def k0_off74 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_219 : BitVec 32 := 0#32
  ![v2.toNat, 0]
def k0_off75 (v471 : BitVec 32) : Fin 2 → Nat :=
  let c0_i32_224 : BitVec 32 := 0#32
  ![v471.toNat, 0]

def k0_chk30 (v471 : BitVec 32) : Prop :=
  (∀ a, (k0_off75 v471) a + S1x2048.size a ≤ S30x2048.size a)
theorem k0_off75_inb : ∀ (v471 : BitVec 32) (k0_hw30 : k0_chk30 v471), ∀ a, (k0_off75 v471) a + S1x2048.size a ≤ S30x2048.size a := fun v471 k0_hw30 => k0_hw30

def k0_off76 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_222 : BitVec 32 := 16#32
  let v468 : BitVec 32 := Scalar.muli arg8 c16_i32_222
  let c13_i32_223 : BitVec 32 := 13#32
  let v469 : BitVec 32 := Scalar.addi v468 c13_i32_223
  let v472 : BitVec 32 := Scalar.addi v2 v469
  let c0_i32_225 : BitVec 32 := 0#32
  ![v472.toNat, 0]
def k0_off77 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_230 : BitVec 32 := 0#32
  ![v2.toNat, 0]
def k0_off78 (v492 : BitVec 32) : Fin 2 → Nat :=
  let c0_i32_235 : BitVec 32 := 0#32
  ![v492.toNat, 0]

def k0_chk31 (v492 : BitVec 32) : Prop :=
  (∀ a, (k0_off78 v492) a + S1x2048.size a ≤ S30x2048.size a)
theorem k0_off78_inb : ∀ (v492 : BitVec 32) (k0_hw31 : k0_chk31 v492), ∀ a, (k0_off78 v492) a + S1x2048.size a ≤ S30x2048.size a := fun v492 k0_hw31 => k0_hw31

def k0_off79 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_233 : BitVec 32 := 16#32
  let v489 : BitVec 32 := Scalar.muli arg8 c16_i32_233
  let c14_i32_234 : BitVec 32 := 14#32
  let v490 : BitVec 32 := Scalar.addi v489 c14_i32_234
  let v493 : BitVec 32 := Scalar.addi v2 v490
  let c0_i32_236 : BitVec 32 := 0#32
  ![v493.toNat, 0]
def k0_off80 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_241 : BitVec 32 := 0#32
  ![v2.toNat, 0]
def k0_off81 (v513 : BitVec 32) : Fin 2 → Nat :=
  let c0_i32_246 : BitVec 32 := 0#32
  ![v513.toNat, 0]

def k0_chk32 (v513 : BitVec 32) : Prop :=
  (∀ a, (k0_off81 v513) a + S1x2048.size a ≤ S30x2048.size a)
theorem k0_off81_inb : ∀ (v513 : BitVec 32) (k0_hw32 : k0_chk32 v513), ∀ a, (k0_off81 v513) a + S1x2048.size a ≤ S30x2048.size a := fun v513 k0_hw32 => k0_hw32

def k0_off82 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c1_i32_66 : BitVec 32 := 1#32
  let c1_i32_67 : BitVec 32 := 1#32
  let arg8 : BitVec 32 := Scf.iv c1_i32_66 c1_i32_67 k0_t1
  let c16_i32_244 : BitVec 32 := 16#32
  let v510 : BitVec 32 := Scalar.muli arg8 c16_i32_244
  let c15_i32_245 : BitVec 32 := 15#32
  let v511 : BitVec 32 := Scalar.addi v510 c15_i32_245
  let v514 : BitVec 32 := Scalar.addi v2 v511
  let c0_i32_247 : BitVec 32 := 0#32
  ![v514.toNat, 0]
@[reducible] def k0_t2_loop : Scf.Loop 32 :=
  let c0_i32_70 : BitVec 32 := 0#32
  let c16_i32 : BitVec 32 := 16#32
  let v182 : BitVec 32 := Scalar.addi c0_i32_70 c16_i32
  let c1_i32_71 : BitVec 32 := 1#32
  ⟨c0_i32_70, v182, c1_i32_71⟩
def k0_off83 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_75 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S30x2048 : Shape := ⟨2, ![30, 2048]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x2048 : Shape := ⟨3, ![1024, 50, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S30x2048, .f32⟩
  | .hbm, ⟨2, _⟩ => ⟨S_, .i32⟩
  | .hbm, ⟨3, _⟩ => ⟨S1024x50, .i32⟩
  | .hbm, ⟨4, _⟩ => ⟨S1024x50, .i1⟩
  | .hbm, ⟨5, _⟩ => ⟨S_, .i32⟩
  | .hbm, ⟨6, _⟩ => ⟨S1024x50, .i32⟩
  | .hbm, ⟨7, _⟩ => ⟨S1024x50, .i32⟩
  | .hbm, ⟨8, _⟩ => ⟨S1024x50, .i32⟩
  | .hbm, ⟨9, _⟩ => ⟨S1024x50x1, .i32⟩
  | .hbm, ⟨10, _⟩ => ⟨S1, .i32⟩
  | .hbm, ⟨11, _⟩ => ⟨S_, .i32⟩
  | .hbm, ⟨12, _⟩ => ⟨S1024x50x1, .i32⟩
  | .hbm, ⟨13, _⟩ => ⟨S1024x50x1, .i1⟩
  | .hbm, ⟨14, _⟩ => ⟨S1x1x1, .i32⟩
  | .hbm, ⟨15, _⟩ => ⟨S1024x50x1, .i32⟩
  | .hbm, ⟨16, _⟩ => ⟨S1024x50x1, .i1⟩
  | .hbm, ⟨17, _⟩ => ⟨S1024x50x1, .i1⟩
  | .hbm, ⟨18, _⟩ => ⟨S_, .i1⟩
  | .hbm, ⟨19, _⟩ => ⟨S1024x50, .i1⟩
  | .hbm, ⟨20, _⟩ => ⟨S1024x50x2048, .f32⟩
  | .hbm, ⟨21, _⟩ => ⟨S1024x50x2048, .i1⟩
  | .hbm, ⟨22, _⟩ => ⟨S_, .f32⟩
  | .hbm, ⟨23, _⟩ => ⟨S1024x50x2048, .f32⟩
  | .hbm, ⟨24, _⟩ => ⟨S1024x50x2048, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  What the run of the lookup kernel is stated over: the launch's set-up, the buffers and the parts of them each tile is
  handed, and the array the call is to leave behind (`looked`).

  The call runs on two SparseCores of sixteen tiles each. Tile `L` fetches 1600 indices and the whole table into its own
  memory, then sends out 1600 table rows, one a transfer, into rows `firstRow L … firstRow L + 1599` of the result.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ShareLeaves
public import Idealize.ShloMosaic.Lib.ValueIdxCore
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The program's labels, its launch of the SparseCores, its definitions and its (no) loop variants. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call has sixteen tiles on each SparseCore, -/
theorem nSub_zero : (K (F := F)).nSub 0 = 16 := rfl
/-- and two SparseCores. -/
theorem nCore_zero : (K (F := F)).nCore 0 = 2 := rfl

/-- What the launch theorem asks of the program's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, and counters for the transfers. -/
abbrev UH : Type := URounds (GSem nD τ sig) ℕ
abbrev UU : Type := UH × Counters

local notation "𝕄" => MT nD τ sig (HIx 1) (Elt F) ℕ UU ℕ

/-- The handshakes' part of it. -/
abbrev EH : Emb UH (MT nD τ sig (HIx 1) (Elt F) ℕ UU ℕ) := embL

/-! ## The buffers -/

/-- The call's three operands: the 51200 indices, the table, the result. -/
abbrev nLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

/-- The views a tile has of the indices, the table, the result, its copy of its indices and its copy of the table. -/
abbrev nV : Memref Cert.KernelIdeal.sig Kind.scVector Space.hbm Cert.KernelIdeal.S51200 EltTy.i32 := Memref.whole Cert.KernelIdeal.main_v1_scv
abbrev tV : Memref Cert.KernelIdeal.sig Kind.scVector Space.hbm Cert.KernelIdeal.S30x2048 EltTy.f32 := Memref.whole Cert.KernelIdeal.main_arg1_scv
abbrev oV : Memref Cert.KernelIdeal.sig Kind.scVector Space.hbm Cert.KernelIdeal.S51200x2048 EltTy.f32 := Memref.whole Cert.KernelIdeal.main_v2_scv
abbrev jV : Memref Cert.KernelIdeal.sig Kind.scVector Space.vmem Cert.KernelIdeal.S1600 EltTy.i32 := Memref.whole Cert.KernelIdeal.cc0_scratch0
abbrev rV : Memref Cert.KernelIdeal.sig Kind.scVector Space.vmem Cert.KernelIdeal.S30x2048 EltTy.f32 := Memref.whole Cert.KernelIdeal.cc0_scratch1

/-- Tile `L` of device `d`. -/
abbrev tile (d : Dev nD) (L : grid0.Coords) : Thread nD τ := V d ((L 0).castLE hcore0) ((L 1).castLE hsub0)

/-- The first of the 1600 rows of the result that tile `L` writes, and the first of the 1600 indices it reads. -/
def firstRow (L : grid0.Coords) : ℕ := 3200 * (L 1).val + 1600 * (L 0).val

/-- A tile's rows lie in the result. -/
theorem firstRow_le (L : grid0.Coords) : firstRow L + 1600 ≤ 51200 := by
  have h0 : (L 0).val < 2 := (L 0).isLt
  have h1 : (L 1).val < 16 := (L 1).isLt
  unfold firstRow; omega

/-- Index `t` of tile `L`, as a position in the 51200 indices. -/
def pos (L : grid0.Coords) (t : Fin 1600) : Fin 51200 := ⟨firstRow L + t.val, by have := firstRow_le L; omega⟩

/-- The indices in positions `a … a + n - 1`. -/
def idxRange (a n : ℕ) : Finset S51200.Idx := Finset.univ.filter fun j => a ≤ (j 0).val ∧ (j 0).val < a + n
/-- Rows `a … a + n - 1` of the result. -/
def outRows (a n : ℕ) : Finset S51200x2048.Idx := Finset.univ.filter fun j => a ≤ (j 0).val ∧ (j 0).val < a + n
/-- Row `r` of the table. -/
def tabRow (r : ℕ) : Finset S30x2048.Idx := Finset.univ.filter fun j => (j 0).val = r

/-! ## The value -/

/-- The table row an index names: itself when it is below 30, which every index is under the precondition. -/
def rowOf (w : BitVec 32) : Fin 30 := ⟨w.toNat % 30, Nat.mod_lt _ (by decide)⟩

/-- An index below 30 names the row of its own number. -/
theorem rowOf_val {w : BitVec 32} (h : w.toNat < 30) : (rowOf w).val = w.toNat := Nat.mod_eq_of_lt h

/-- The looked-up array: row `n` is the table's row at index `n`. -/
def looked (fi : S51200.Idx → BitVec 32) (ft : S30x2048.Idx → F .f32) : S51200x2048.Idx → F .f32 :=
  fun j => ft (ix2 (rowOf (fi (ix1 (j 0)))) (j 1))

/-! ## The parts the transfers go through -/

/-- One row of a tile's copy of the table, as a transfer's source. -/
abbrev srcRow (off : Fin 2 → ℕ) (h : ∀ a, off a + S1x2048.size a ≤ S30x2048.size a) : Memref sig .scVector .vmem S2048 .f32 :=
  ((rV).slice (Rect.unit (s := S30x2048) off S1x2048.size h) (fun _ => rfl)).squeeze S2048 squeezes_S1x2048_S2048
/-- One row of the result, as a transfer's destination. -/
abbrev dstRow (off : Fin 2 → ℕ) (h : ∀ a, off a + S1x2048.size a ≤ S51200x2048.size a) : Memref sig .scVector .hbm S2048 .f32 :=
  ((oV).slice (Rect.unit (s := S51200x2048) off S1x2048.size h) (fun _ => rfl)).squeeze S2048 squeezes_S1x2048_S2048

/-- Element `x` of a row written as a one-row block: in the block it is element `(0, x)`. -/
theorem squeeze_idx (x : S2048.Idx) : Shape.reshapeEquiv squeezes_S1x2048_S2048.numel_eq x = (ix2 (0 : Fin 1) (x 0) : S1x2048.Idx) := by
  refine (Shape.reshapeEquiv_cons_one (d := ![2048]) _ x).trans ?_
  funext a; match a with | 0 => rfl | 1 => rfl

/-- Element `x` of the source row at offset `(r, 0)` is element `(r, x)` of the table. -/
theorem emb_srcRow {off : Fin 2 → ℕ} {h} (r : Fin 30) (e : off = ![r.val, 0]) (x : S2048.Idx) :
    (srcRow off h).view.emb x = (ix2 r (x 0) : S30x2048.Idx) := by
  subst e
  show (Rect.unit (s := S30x2048) ![r.val, 0] S1x2048.size h).emb (Shape.reshapeEquiv squeezes_S1x2048_S2048.numel_eq x) = _
  rw [squeeze_idx]
  funext a; apply Fin.ext; match a with | 0 => simp | 1 => simp

/-- Element `x` of the destination row at offset `(n, 0)` is element `(n, x)` of the result. -/
theorem emb_dstRow {off : Fin 2 → ℕ} {h} (n : Fin 51200) (e : off = ![n.val, 0]) (x : S2048.Idx) :
    (dstRow off h).view.emb x = (ix2 n (x 0) : S51200x2048.Idx) := by
  subst e
  show (Rect.unit (s := S51200x2048) ![n.val, 0] S1x2048.size h).emb (Shape.reshapeEquiv squeezes_S1x2048_S2048.numel_eq x) = _
  rw [squeeze_idx]
  funext a; apply Fin.ext; match a with | 0 => simp | 1 => simp

/-- The source row at offset `(r, 0)` is row `r` of the table. -/
theorem set_srcRow {off : Fin 2 → ℕ} {h} (r : Fin 30) (e : off = ![r.val, 0]) : (srcRow off h).view.set = tabRow r.val := by
  ext j
  constructor
  · intro hj
    obtain ⟨x, -, rfl⟩ := Finset.mem_map.mp hj
    rw [emb_srcRow r e]; simp [tabRow]
  · intro hj
    refine Finset.mem_map.mpr ⟨ix1 (j 1), Finset.mem_univ _, ?_⟩
    rw [emb_srcRow r e]
    funext a; match a with
    | 0 => exact Fin.ext ((Finset.mem_filter.mp hj).2).symm
    | 1 => rfl

/-- The destination row at offset `(n, 0)` is row `n` of the result. -/
theorem set_dstRow {off : Fin 2 → ℕ} {h} (n : Fin 51200) (e : off = ![n.val, 0]) : (dstRow off h).view.set = outRows n.val 1 := by
  ext j
  constructor
  · intro hj
    obtain ⟨x, -, rfl⟩ := Finset.mem_map.mp hj
    rw [emb_dstRow n e]; simp [outRows]
  · intro hj
    refine Finset.mem_map.mpr ⟨ix1 (j 1), Finset.mem_univ _, ?_⟩
    rw [emb_dstRow n e]
    have := (Finset.mem_filter.mp hj).2
    funext a; match a with
    | 0 => exact Fin.ext (show n.val = (j 0).val by omega)
    | 1 => rfl

/-- The block of indices a tile fetches. -/
abbrev idxBlock (L : grid0.Coords) : Memref sig .scVector .hbm S1600 .i32 :=
  (nV).slice (Rect.unit (s := S51200) (k0_off1 L) S1600.size (k0_off1_inb L)) (fun _ => rfl)

/-- Index `t` of the block is index `pos L t` of the 51200. -/
theorem emb_idxBlock (L : grid0.Coords) (t : Fin 1600) : (idxBlock L).view.emb (ix1 t) = (ix1 (pos L t) : S51200.Idx) := by
  show (Rect.unit (s := S51200) (k0_off1 L) S1600.size (k0_off1_inb L)).emb (ix1 t) = _
  funext a; apply Fin.ext
  match a with | 0 => simp [k0_off1_eq, pos, firstRow]

/-- The block is the 1600 indices from the tile's first. -/
theorem set_idxBlock (L : grid0.Coords) : (idxBlock L).view.set = idxRange (firstRow L) 1600 := by
  ext j
  constructor
  · intro hj
    obtain ⟨x, -, rfl⟩ := Finset.mem_map.mp hj
    obtain ⟨t, rfl⟩ : ∃ t : Fin 1600, x = ix1 t := ⟨x 0, eq_ix1 x⟩
    rw [emb_idxBlock]; simp [idxRange, pos]
  · intro hj
    have := (Finset.mem_filter.mp hj).2
    have hb : (j 0).val - firstRow L < 1600 := by omega
    refine Finset.mem_map.mpr ⟨ix1 ⟨(j 0).val - firstRow L, hb⟩, Finset.mem_univ _, (emb_idxBlock L ⟨_, hb⟩).trans ?_⟩
    have hp : pos L ⟨_, hb⟩ = j 0 := Fin.ext (show firstRow L + ((j 0).val - firstRow L) = (j 0).val by omega)
    exact (congrArg ix1 hp).trans (eq_ix1 j).symm

end Cert.Proof.Lookup

end
-- ==== Proof.Rows.lean ====
/-
  The row transfers of one tile: the state between them (`St`), and the three steps the tile's body is made of — the issue
  of the next transfer, the wait for one, and the check that a row number lies in the table.

  All 1600 transfers count on one cell, and a wait for one does not say which has landed. The state therefore keeps two
  numbers only, how many were issued and how many waited for; what the transfers bring is taken out once all were waited
  for.
-/
module

public import proofs.«01_k».proof.Proof.Setup

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (fi : Buf (Elt F) (nLoc d)) (ft : Buf (Elt F) (tLoc d)) (fo : Buf (Elt F) (oLoc d))

/-! ## One transfer: what it takes and what it brings -/

/-- The completion cell every row transfer of the tile counts on. -/
abbrev rowSem : DmaSem sig := cc0_scratch2.sem

/-- The read share of the tile's copy of the table that transfer `t` goes out on. -/
abbrev rowShare (t : Fin 1600) : PosShare TreeShare := Transfers.shareTok fullShare 1600 t

/-- The word index `t` of tile `L` holds. -/
abbrev word (t : Fin 1600) : BitVec 32 := fi (ix1 (pos L t))

/-- Transfer `t`'s share of the table row it sends. -/
abbrev srcPts (t : Fin 1600) : sProp 𝕄 := (tile d L).loc cc0_scratch1 ↦[tabRow (rowOf (word d L fi t)).val]{rowShare t} ft

/-- Transfer `t` before its issue: its share of the table row, and the row of the result at what the launch left there. -/
def todo (t : Fin 1600) : sProp 𝕄 := iprop((oLoc d ↦[outRows (pos L t).val 1]{fullShare} fo) ∗ srcPts d L fi ft t)

/-- Transfer `t` landed: the row of the result holds the looked-up row, and the share is back. -/
def sent (t : Fin 1600) : sProp 𝕄 := iprop((oLoc d ↦[outRows (pos L t).val 1]{fullShare} looked fi ft) ∗ srcPts d L fi ft t)

/-- A landed transfer's row and share can be kept in the cell's account. -/
instance sent_storable (t : Fin 1600) : BI.Storable (upEmb : UEmb _ 𝕄) (sent d L fi ft t) := by
  unfold sent; infer_instance

/-- What one row transfer counts. -/
def rowUnits : ℕ := (dstRow ![0, 0] (by decide)).view.dmaCredit

/-- It counts something. -/
theorem rowUnits_pos : 0 < rowUnits := View.dmaCredit_pos _ (by decide)

/-- The transfer's write is the looked-up row: on row `pos L t`, the destination rewritten with the source row read off
    the table is `looked`. -/
theorem written {off off' : Fin 2 → ℕ} {h h'} (t : Fin 1600)
    (e : off = ![(rowOf (word d L fi t)).val, 0]) (e' : off' = ![(pos L t).val, 0]) :
    ∀ j ∈ outRows (pos L t).val 1,
      (dstRow off' h').view.write (Elt F) fo ((ReadAs.same (Val := Elt F)).apply ((srcRow off h).view.read (Elt F) ft)) Finset.univ j = looked fi ft j := by
  intro j hj
  rw [← set_dstRow (h := h') _ e'] at hj
  obtain ⟨x, -, rfl⟩ := Finset.mem_map.mp hj
  refine (View.write_emb_of_mem _ _ (Finset.mem_univ x)).trans ?_
  refine (cast_eq _ _).trans ((View.read_apply _ _).trans ((cast_eq _ _).trans ?_))
  rw [emb_srcRow _ e, emb_dstRow _ e']
  rfl

/-! ## The tile's state between its transfers -/

variable (O : CellTallies nD τ sig (HIx 1)) (W : Waits sig (HIx 1))

/-- The tile's state with `k` row transfers issued, in order, and `u` of them waited for: the transfers' shared counter,
    what the transfers still to be issued need, and the waits taken so far. -/
def St (k u : ℕ) : sProp 𝕄 :=
  iprop(levAts (K (F := F)).L (K (F := F)).lev
    ∗ Transfers.Batch countersEmb (tile d L) (.dma rowSem) (default : HIx 1) rowUnits (sent d L fi ft) k (u * rowUnits)
    ∗ bigSep (Transfers.pending k) (todo d L fi ft fo)
    ∗ ∃ W', ⌜∀ p ∈ W', p ∈ W ∨ p.2 = none⌝ ∗ owes (tile d L) O W')

/-- Issuing transfer `k`: the source is the table row word `k` names, the destination row `k` of the tile's rows. -/
theorem issue {k u : ℕ} (hk : k < 1600) (hu : u ≤ k) {off off' : Fin 2 → ℕ} {h h'} {hs hd ht}
    (e : off = ![(rowOf (word d L fi ⟨k, hk⟩)).val, 0]) (e' : off' = ![(pos L ⟨k, hk⟩).val, 0]) (Q : PUnit → sProp 𝕄) :
    St d L fi ft fo O W k u
      ⊢ iprop((St d L fi ft fo O W (k + 1) u -∗ Q ⟨⟩)
          -∗ wp frame (wpE (defs₀ (F := F)) 𝒱₀ (tile d L) none) Set.univ
            (Prog.lift (.enqueueDma (srcRow off h) (.here (dstRow off' h')) (.dma rowSem) hs hd ht)) Q) := by
  unfold St
  iintro ⟨#Hlv, HB, Htodo, HO⟩ HQ
  ihave H := (Entails.of_eq (Transfers.bigSep_pending_step (todo d L fi ft fo) k hk)) $$ Htodo
  icases H with ⟨Hk, Htodo⟩
  ihave Hk' := (Entails.of_eq (show todo d L fi ft fo ⟨k, hk⟩ = iprop(((dstRow off' h').view.loc (tile d L) ↦[(dstRow off' h').view.set]{fullShare} fo)
      ∗ ((srcRow off h).view.loc (tile d L) ↦[(srcRow off h).view.set]{rowShare ⟨k, hk⟩} ft)) by
    rw [set_dstRow _ e', set_srcRow _ e]; rfl)) $$ Hk
  icases Hk' with ⟨Hd, Hs⟩
  iapply (Transfers.wp_dmaBatch countersEmb 𝒱₀ (tile d L) none (src := srcRow off h) (dst := dstRow off' h') (default : HIx 1) rowUnits rfl (le_refl _) hk
    (Nat.mul_le_mul_right _ hu) (D := sent d L fi ft) (by
      rw [set_dstRow _ e', set_srcRow _ e]
      unfold sent
      exact sep_mono_left (Entails.of_eq (pointsTo_congr (written d L fi ft fo ⟨k, hk⟩ e e'))))) $$ [Hd Hs HB]
  · isplitl [Hs]; · iexact Hs
    isplitl [Hd]; · iexact Hd
    iexact HB
  iintro HB
  irw [wp_ret]; imodintro
  iapply HQ
  isplitr; · iexact Hlv
  isplitl [HB]; · iexact HB
  isplitl [Htodo]; · iexact Htodo
  iexact HO

/-- A wait for one row: there is one issued and not yet waited for. -/
theorem await (hO : ∀ g, O g none = 0) {k u : ℕ} (hu : u < k) {off off' : Fin 2 → ℕ} {h h'} {hs hd} (Q : PUnit → sProp 𝕄) :
    St d L fi ft fo O W k u
      ⊢ iprop((St d L fi ft fo O W k (u + 1) -∗ Q ⟨⟩)
          -∗ wp frame (wpE (defs₀ (F := F)) 𝒱₀ (tile d L) none) Set.univ
            (Prog.lift (.waitDma2 rowSem (srcRow off h) (dstRow off' h') hs hd)) Q) := by
  unfold St
  iintro ⟨#Hlv, HB, Htodo, %W', %hW', HO⟩ HQ
  ihave Hmw := (show levAts (K (F := F)).L (K (F := F)).lev ⊢ Transfers.MayWaits (tile d L) (default : HIx 1) O from
    (K (F := F)).mayWaits_none (thr := tile d L) hO) $$ Hlv
  iapply (Transfers.wp_waitBatchMulO countersEmb 𝒱₀ (tile d L) none (srcw := srcRow off h) (dstw := dstRow off' h') (default : HIx 1) 1 (N := rowUnits) (Nat.one_mul _).symm
    (D := sent d L fi ft) (j := k) (u := u * rowUnits) (by rw [← Nat.add_mul, Nat.mul_comm]; exact Nat.mul_le_mul (le_refl _) hu)) $$ [HB HO Hmw]
  · isplitl [HB]; · iexact HB
    isplitl [HO]; · iexact HO
    iapply (Transfers.MayWaits.elim (SemLoc.dma rowSem)) $$ Hmw
  iintro ⟨HB, HO⟩
  irw [wp_ret]; imodintro
  iapply HQ
  isplitr; · iexact Hlv
  isplitl [HB]; · irw [Nat.add_mul]; iexact HB
  isplitl [Htodo]; · iexact Htodo
  iexists _; isplitr
  swap; · iexact HO
  ipureintro; intro p hp
  rcases Finset.mem_insert.mp hp with hp | hp
  · exact .inr (hp ▸ rfl)
  · exact hW' p hp

/-- A check whose proposition holds is passed. -/
theorem checked {P : Prop} {dec : Decidable P} (hP : P) (Q : PLift P → sProp 𝕄) :
    Q ⟨hP⟩ ⊢ wp frame (wpE (defs₀ (F := F)) 𝒱₀ (tile d L) none) Set.univ (Prog.lift (TpuEff.assume P dec)) Q := by
  iintro HQ
  iapply (wp_assume 𝒱₀ (tile d L) none Set.univ hP)
  irw [wp_ret]; imodintro
  iexact HQ

/-- The check of a row number below 30: the row lies in the table. -/
theorem row_inb {w : BitVec 32} (hw : w.toNat < 30) : ∀ a : Fin 2, (![w.toNat, 0] : Fin 2 → ℕ) a + S1x2048.size a ≤ S30x2048.size a := by
  intro a; match a with
  | 0 => show w.toNat + 1 ≤ 30; omega
  | 1 => exact le_refl 2048

end Cert.Proof.Lookup

end
-- ==== Proof.Trip.lean ====
/-
  One tile's steps joined to groups of sixteen: a lane of the unrolled loop (`first_step`, `lane_step`), a trip of the loop
  over the groups (`trip`), and a trip of the loop of waits at the end (`drain`).
-/
module

public import proofs.«01_k».proof.Proof.Rows

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (fi : Buf (Elt F) (nLoc d)) (ft : Buf (Elt F) (tLoc d)) (fo : Buf (Elt F) (oLoc d))
variable (O : CellTallies nD τ sig (HIx 1)) (W : Waits sig (HIx 1))

/-! ## The three steps, with `J` held throughout -/

/-- The issue of transfer `k`. -/
theorem issue_step {J : sProp 𝕄} {k u : ℕ} {hk : k < 1600} {off off' : Fin 2 → ℕ} {h h'} {hs hd ht} {Q : PUnit → sProp 𝕄} (hu : u ≤ k)
    (e : off = ![(rowOf (word d L fi ⟨k, hk⟩)).val, 0]) (e' : off' = ![(pos L ⟨k, hk⟩).val, 0])
    (H : iprop(J ∗ St d L fi ft fo O W (k + 1) u) ⊢ Q ⟨⟩) :
    iprop(J ∗ St d L fi ft fo O W k u) ⊢ wp frame (wpE (defs₀ (F := F)) 𝒱₀ (tile d L) none) Set.univ
      (Prog.lift (.enqueueDma (srcRow off h) (.here (dstRow off' h')) (.dma rowSem) hs hd ht)) Q := by
  iintro ⟨HJ, HSt⟩
  iapply (issue d L fi ft fo O W hk hu e e' Q) $$ HSt
  iintro HSt
  iapply H
  isplitl [HJ] <;> iassumption

/-- A wait for one transfer. -/
theorem await_step {J : sProp 𝕄} (hO : ∀ g, O g none = 0) {k u : ℕ} {off off' : Fin 2 → ℕ} {h h'} {hs hd} {Q : PUnit → sProp 𝕄} (hu : u < k)
    (H : iprop(J ∗ St d L fi ft fo O W k (u + 1)) ⊢ Q ⟨⟩) :
    iprop(J ∗ St d L fi ft fo O W k u) ⊢ wp frame (wpE (defs₀ (F := F)) 𝒱₀ (tile d L) none) Set.univ
      (Prog.lift (.waitDma2 rowSem (srcRow off h) (dstRow off' h') hs hd)) Q := by
  iintro ⟨HJ, HSt⟩
  iapply (await d L fi ft fo O W hO hu Q) $$ HSt
  iintro HSt
  iapply H
  isplitl [HJ] <;> iassumption

/-- A check that holds. -/
theorem check_step {X : sProp 𝕄} {P : Prop} {dec : Decidable P} {Q : PLift P → sProp 𝕄} (hP : P) (H : X ⊢ Q ⟨hP⟩) :
    X ⊢ wp frame (wpE (defs₀ (F := F)) 𝒱₀ (tile d L) none) Set.univ (Prog.lift (TpuEff.assume P dec)) Q :=
  BI.Entails.trans H (checked d L hP Q)

/-- The end of a program. -/
theorem done_step {α : Type} {X : sProp 𝕄} {a : α} {Q : α → sProp 𝕄} (H : X ⊢ Q a) :
    X ⊢ wp frame (wpE (defs₀ (F := F)) 𝒱₀ (tile d L) none) Set.univ (pure a) Q := by
  rw [wp_pure]
  iintro HX
  imodintro
  iapply H
  iexact HX

/-- The tile's copy of its block of indices: word `t` of it is index `t` of the tile. -/
def jPts : sProp 𝕄 := (tile d L).loc cc0_scratch0 ↦{fullShare} (fun j => fi (ix1 (pos L (j 0))))

/-- A load of sixteen words of the tile's copy of its indices, from word `a` on. -/
theorem load_step {R X : sProp 𝕄} {off : Fin 1 → ℕ} {h : ∀ a, off a + S16.size a ≤ S1600.size a} {hl} {Q : (S16.Idx → BitVec 32) → sProp 𝕄} (a : ℕ) (ha : a + 16 ≤ 1600) (e : off = ![a])
    (H : ∀ v : S16.Idx → BitVec 32, (∀ i : Fin 16, v (ix1 i) = word d L fi ⟨a + i.val, by omega⟩) → iprop((jPts d L fi ∗ R) ∗ X) ⊢ Q v) :
    iprop((jPts d L fi ∗ R) ∗ X) ⊢ wp frame (wpE (defs₀ (F := F)) 𝒱₀ (tile d L) none) Set.univ
      (Prog.lift (.load jV (Rect.unit (s := S1600) off S16.size h).toLoadRect hl)) Q := by
  subst e
  unfold jPts at H ⊢
  iintro ⟨⟨HJ, HR⟩, HX⟩
  iapply (wp_load 𝒱₀ (tile d L) none Set.univ (m := jV) (Finset.subset_univ _)) $$ HJ
  iintro HJ
  irw [wp_ret]; imodintro
  iapply (H _ (fun i => by
    show fi _ = fi _
    congr 2
    exact Fin.ext (by show firstRow L + (a + 1 * i.val) = firstRow L + (a + i.val); omega)))
  isplitl [HJ HR]
  · isplitl [HJ] <;> iassumption
  · iexact HX

/-- Sixteen words recast to their own shape are the same words. -/
theorem lanes_self {α : Type} (v : S16.Idx → α) : shapeCast S16 v shapeCasts_S16_S16 = v :=
  funext fun i => congrArg v (Shape.reshapeEquiv_self _ i)

/-- Lane `o` of the loaded words. -/
theorem lane_word (x : IVec S16 32) (o : Fin 1 → ℕ) (h : S16.Slices o S1) (h') (ho : o 0 < 16) :
    extractAt ![0] (extractStridedSlice S1 o x h) h' = x (ix1 ⟨o 0, ho⟩) := by
  unfold extractAt extractStridedSlice
  congr 1
  funext a; apply Fin.ext
  match a with | 0 => simp

variable {a : ℕ} {ha : a + 16 ≤ 1600} {x : IVec S16 32}

/-- One lane of the first sixteen: the check of its word, then the issue of transfer `k`. The sixteen words `x` are those
    of the tile's indices from `a` on, the lane's word is number `o` of them, and the transfer's destination is row `n`. -/
theorem first_step {J : sProp 𝕄} {k u n : ℕ} {o : Fin 1 → ℕ} {hp} {P : Prop} {dec : Decidable P} {off off' : Fin 2 → ℕ}
    {h : P → ∀ a, off a + S1x2048.size a ≤ S30x2048.size a} {h'} {hs : ∀ p : PLift P, (srcRow off (h p.down)).view.WordExact} {hd ht}
    {Q : PLift P → PUnit → sProp 𝕄} (hfi : ∀ j, (fi j : BitVec 32).toNat < 30)
    (hx : ∀ i : Fin 16, x (ix1 i) = word d L fi ⟨a + i.val, by omega⟩)
    (hs₁ : S16.Slices o S1) (hP : (∀ b : Fin 2, (![(extractAt ![0] (extractStridedSlice S1 o x hs₁) hp).toNat, 0] : Fin 2 → ℕ) b + S1x2048.size b ≤ S30x2048.size b) → P)
    (e : off = ![(extractAt ![0] (extractStridedSlice S1 o x hs₁) hp).toNat, 0]) (e' : off' = ![n, 0])
    (H : ∀ p, iprop(J ∗ St d L fi ft fo O W (k + 1) u) ⊢ Q p ⟨⟩)
    (hu : u ≤ k := by omega) (ho : o 0 < 16 := by decide) (hk : k = a + o 0 := by rfl)
    (hn : n = firstRow L + k := by unfold firstRow; omega) :
    iprop(J ∗ St d L fi ft fo O W k u) ⊢ wp frame (wpE (defs₀ (F := F)) 𝒱₀ (tile d L) none) Set.univ (Prog.lift (TpuEff.assume P dec))
      fun p => wp frame (wpE (defs₀ (F := F)) 𝒱₀ (tile d L) none) Set.univ
        (Prog.lift (.enqueueDma (srcRow off (h p.down)) (.here (dstRow off' h')) (.dma rowSem) (hs p) hd ht)) (Q p) := by
  have hk' : k < 1600 := by omega
  have hw : extractAt ![0] (extractStridedSlice S1 o x hs₁) hp = word d L fi ⟨k, hk'⟩ := by
    subst hk; rw [lane_word x o hs₁ hp ho, hx]
  have hlt : (word d L fi ⟨k, hk'⟩).toNat < 30 := hfi _
  refine check_step d L (hP (by rw [hw]; exact row_inb hlt))
    (issue_step d L fi ft fo O W (hk := hk') hu (by rw [e, hw, rowOf_val hlt]) (by rw [e', hn]; rfl) (H _))

/-- One lane of a later sixteen: a wait for one transfer, then as a lane of the first sixteen. -/
theorem lane_step {J : sProp 𝕄} (hO : ∀ g, O g none = 0) {k u n : ℕ} {o : Fin 1 → ℕ} {hp} {P : Prop} {dec : Decidable P}
    {w w' off off' : Fin 2 → ℕ} {i i'} {hs' hd'} {h : P → ∀ a, off a + S1x2048.size a ≤ S30x2048.size a} {h'}
    {hs : ∀ p : PLift P, (srcRow off (h p.down)).view.WordExact} {hd ht}
    {Q : PLift P → PUnit → sProp 𝕄} (hfi : ∀ j, (fi j : BitVec 32).toNat < 30)
    (hx : ∀ i : Fin 16, x (ix1 i) = word d L fi ⟨a + i.val, by omega⟩)
    (hs₁ : S16.Slices o S1) (hP : (∀ b : Fin 2, (![(extractAt ![0] (extractStridedSlice S1 o x hs₁) hp).toNat, 0] : Fin 2 → ℕ) b + S1x2048.size b ≤ S30x2048.size b) → P)
    (e : off = ![(extractAt ![0] (extractStridedSlice S1 o x hs₁) hp).toNat, 0]) (e' : off' = ![n, 0])
    (H : ∀ p, iprop(J ∗ St d L fi ft fo O W (k + 1) (u + 1)) ⊢ Q p ⟨⟩)
    (hu : u < k := by omega) (ho : o 0 < 16 := by decide) (hk : k = a + o 0 := by rfl)
    (hn : n = firstRow L + k := by unfold firstRow; omega) :
    iprop(J ∗ St d L fi ft fo O W k u) ⊢ wp frame (wpE (defs₀ (F := F)) 𝒱₀ (tile d L) none) Set.univ
      (Prog.lift (.waitDma2 rowSem (srcRow w i) (dstRow w' i') hs' hd'))
      fun _ => wp frame (wpE (defs₀ (F := F)) 𝒱₀ (tile d L) none) Set.univ (Prog.lift (TpuEff.assume P dec))
      fun p => wp frame (wpE (defs₀ (F := F)) 𝒱₀ (tile d L) none) Set.univ
        (Prog.lift (.enqueueDma (srcRow off (h p.down)) (.here (dstRow off' h')) (.dma rowSem) (hs p) hd ht)) (Q p) :=
  await_step d L fi ft fo O W hO hu (first_step d L fi ft fo O W (ha := ha) hfi hx hs₁ hP e e' H hu ho hk hn)

/-- Trip `t` of the kernel's loop: with the first `16 t + 16` transfers issued and `16 t` waited for, it waits for sixteen
    more and issues the next sixteen. -/
theorem trip {R : sProp 𝕄} (hO : ∀ g, O g none = 0) (hfi : ∀ j, (fi j : BitVec 32).toNat < 30) (v2 : BitVec 32) (t : Fin k0_t1_loop.trips) :
    iprop((jPts d L fi ∗ R) ∗ St d L fi ft fo O W (16 * t.val + 16) (16 * t.val))
      ⊢ wp frame (wpE (defs₀ (F := F)) 𝒱₀ (tile d L) none) Set.univ
        (k0_t1_body (F := F) L nV (Memref.isWhole_whole _) tV (Memref.isWhole_whole _) oV (Memref.isWhole_whole _) jV (Memref.isWhole_whole _) rV (Memref.isWhole_whole _)
          cc0_scratch2 cc0_scoped0 cc0_scoped1 v2 t ())
        fun _ => iprop((jPts d L fi ∗ R) ∗ St d L fi ft fo O W (16 * t.val + 32) (16 * t.val + 16)) := by
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [bind_assoc, pure_bind]
  simp only [wp_bind]
  have ht : 16 * t.val + 32 ≤ 1600 := by have := t.isLt; have := k0_t1_abs; omega
  refine load_step d L fi (16 * t.val + 16) (by omega) (k0_off34_eq t) fun v hv => ?_
  have hx : ∀ i : Fin 16, k0_pay2 (F := F) v (ix1 i) = word d L fi ⟨16 * t.val + 16 + i.val, by omega⟩ := fun i => by
    unfold k0_pay2; rw [lanes_self]; exact hv i
  refine lane_step d L fi ft fo O W hO (ha := by omega) (h := fun p => p) hfi hx (by decide) id rfl (k0_off37_eq L t) fun _ => ?_
  refine lane_step d L fi ft fo O W hO (ha := by omega) (h := fun p => p) hfi hx (by decide) id rfl (k0_off40_eq L t) fun _ => ?_
  refine lane_step d L fi ft fo O W hO (ha := by omega) (h := fun p => p) hfi hx (by decide) id rfl (k0_off43_eq L t) fun _ => ?_
  refine lane_step d L fi ft fo O W hO (ha := by omega) (h := fun p => p) hfi hx (by decide) id rfl (k0_off46_eq L t) fun _ => ?_
  refine lane_step d L fi ft fo O W hO (ha := by omega) (h := fun p => p) hfi hx (by decide) id rfl (k0_off49_eq L t) fun _ => ?_
  refine lane_step d L fi ft fo O W hO (ha := by omega) (h := fun p => p) hfi hx (by decide) id rfl (k0_off52_eq L t) fun _ => ?_
  refine lane_step d L fi ft fo O W hO (ha := by omega) (h := fun p => p) hfi hx (by decide) id rfl (k0_off55_eq L t) fun _ => ?_
  refine lane_step d L fi ft fo O W hO (ha := by omega) (h := fun p => p) hfi hx (by decide) id rfl (k0_off58_eq L t) fun _ => ?_
  refine lane_step d L fi ft fo O W hO (ha := by omega) (h := fun p => p) hfi hx (by decide) id rfl (k0_off61_eq L t) fun _ => ?_
  refine lane_step d L fi ft fo O W hO (ha := by omega) (h := fun p => p) hfi hx (by decide) id rfl (k0_off64_eq L t) fun _ => ?_
  refine lane_step d L fi ft fo O W hO (ha := by omega) (h := fun p => p) hfi hx (by decide) id rfl (k0_off67_eq L t) fun _ => ?_
  refine lane_step d L fi ft fo O W hO (ha := by omega) (h := fun p => p) hfi hx (by decide) id rfl (k0_off70_eq L t) fun _ => ?_
  refine lane_step d L fi ft fo O W hO (ha := by omega) (h := fun p => p) hfi hx (by decide) id rfl (k0_off73_eq L t) fun _ => ?_
  refine lane_step d L fi ft fo O W hO (ha := by omega) (h := fun p => p) hfi hx (by decide) id rfl (k0_off76_eq L t) fun _ => ?_
  refine lane_step d L fi ft fo O W hO (ha := by omega) (h := fun p => p) hfi hx (by decide) id rfl (k0_off79_eq L t) fun _ => ?_
  refine lane_step d L fi ft fo O W hO (ha := by omega) (h := fun p => p) hfi hx (by decide) id rfl (k0_off82_eq L t) fun _ => ?_
  exact done_step d L (BIBase.Entails.rfl)

/-- Trip `t` of the last loop waits for one transfer. -/
theorem drain {J : sProp 𝕄} (hO : ∀ g, O g none = 0) (t : Fin k0_t2_loop.trips) :
    iprop(J ∗ St d L fi ft fo O W 1600 (1584 + t.val))
      ⊢ wp frame (wpE (defs₀ (F := F)) 𝒱₀ (tile d L) none) Set.univ
        (k0_t2_body (F := F) L nV (Memref.isWhole_whole _) tV (Memref.isWhole_whole _) oV (Memref.isWhole_whole _) jV (Memref.isWhole_whole _) rV (Memref.isWhole_whole _)
          cc0_scratch2 cc0_scoped0 cc0_scoped1 t ())
        fun _ => iprop(J ∗ St d L fi ft fo O W 1600 (1584 + (t.val + 1))) := by
  unfold k0_t2_body
  simp only [wp_bind]
  have ht : t.val < 16 := by have := t.isLt; have := k0_t2_abs; omega
  exact await_step d L fi ft fo O W hO (by omega) (done_step d L BIBase.Entails.rfl)

/-- A loop, by what holds between its trips. -/
theorem loop_step {l : Scf.Loop 32} {ok : l.OK} {body} {X : sProp 𝕄} {Q : Unit → sProp 𝕄} (I : ℕ → sProp 𝕄)
    (hbody : ∀ t : Fin l.trips, I t.val ⊢ wp frame (wpE (defs₀ (F := F)) 𝒱₀ (tile d L) none) Set.univ (body t ()) fun _ => I (t.val + 1))
    (h0 : X ⊢ I 0) (hQ : I l.trips ⊢ Q ()) :
    X ⊢ wp frame (wpE (defs₀ (F := F)) 𝒱₀ (tile d L) none) Set.univ (Scf.Loop.for l ok () body) Q := by
  have key : iprop(I 0 ∗ (∀ a : Unit, I l.trips -∗ Q a)) ⊢ wp frame (wpE (defs₀ (F := F)) 𝒱₀ (tile d L) none) Set.univ (Scf.Loop.for l ok () body) Q :=
    Scf.wp_for frame (wpE (defs₀ (F := F)) 𝒱₀ (tile d L) none) Set.univ l.lb l.ub l.st ok () body (fun k _ => I k) (fun t _ => hbody t)
  iintro HX
  iapply key
  isplitl [HX]
  · iapply h0; iexact HX
  · iintro %a HI
    iapply hQ; iexact HI

end Cert.Proof.Lookup

end
-- ==== Proof.Parts.lean ====
/-
  What a tile's program is put together from: a fetch with its wait, the tile's rows of the result dealt to its 1600
  transfers, and the tile's copy of the table shared out among them.
-/
module

public import proofs.«01_k».proof.Proof.Trip

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (fi : Buf (Elt F) (nLoc d)) (ft : Buf (Elt F) (tLoc d)) (fo : Buf (Elt F) (oLoc d))
variable (O : CellTallies nD τ sig (HIx 1)) (W : Waits sig (HIx 1))

/-! ## A fetch: a transfer and its wait -/

/-- What the tile owes, with only waits of its own taken besides `W`. -/
def Owing : sProp 𝕄 := iprop(∃ W', ⌜∀ p ∈ W', p ∈ W ∨ p.2 = none⌝ ∗ owes (tile d L) O W')

/-- A transfer on its own cell, then the wait for it: the destination holds what was read off the source. -/
theorem fetch_step {J : sProp 𝕄} (hO : ∀ g, O g none = 0) {s : Shape} {e : EltTy} {sp sp' : Space} {src : Memref sig .scVector sp s e} {dst : Memref sig .scVector sp' s e}
    {sem : DmaSem sig} {q : PosShare TreeShare} (fs : Buf (Elt F) (src.view.loc (tile d L))) (fd : Buf (Elt F) (dst.view.loc (tile d L)))
    {hs hd ht hs' hd'} {Q : PUnit → sProp 𝕄} (hN : 0 < dst.view.dmaCredit)
    (H : iprop((levAts (K (F := F)).L (K (F := F)).lev ∗ Owing d L O W)
        ∗ ((dst.view.loc (tile d L) ↦[Finset.univ]{fullShare} dst.view.write (Elt F) fd ((ReadAs.same (Val := Elt F)).apply (src.view.read (Elt F) fs)) Finset.univ)
          ∗ (src.view.loc (tile d L) ↦[src.view.set]{q} fs) ∗ semVal (tile d L, .dma sem) 0) ∗ J) ⊢ Q ⟨⟩) :
    iprop((levAts (K (F := F)).L (K (F := F)).lev ∗ Owing d L O W)
        ∗ ((dst.view.loc (tile d L) ↦[Finset.univ]{fullShare} fd) ∗ (src.view.loc (tile d L) ↦[src.view.set]{q} fs) ∗ semVal (tile d L, .dma sem) 0) ∗ J)
      ⊢ wp frame (wpE (defs₀ (F := F)) 𝒱₀ (tile d L) none) Set.univ (Prog.lift (.enqueueDma src (.here dst) (.dma sem) hs hd ht))
        fun _ => wp frame (wpE (defs₀ (F := F)) 𝒱₀ (tile d L) none) Set.univ (Prog.lift (.waitDma2 sem src dst hs' hd')) Q := by
  unfold Owing at H ⊢
  iintro ⟨⟨#Hlv, %W', %hW', HO⟩, ⟨Hd, Hs, Hv⟩, HJ⟩
  iapply (Transfers.wp_dmaLocal countersEmb 𝒱₀ (tile d L) none (src := src) (dst := dst) (default : HIx 1) dst.view.dmaCredit rfl hN (Finset.subset_univ _)) $$ [Hd Hs Hv]
  · isplitl [Hs]; · iexact Hs
    isplitl [Hd]; · iexact Hd
    iexact Hv
  iintro Hf
  irw [wp_ret]; imodintro
  ihave Hmw := (show levAts (K (F := F)).L (K (F := F)).lev ⊢ Transfers.MayWaits (tile d L) (default : HIx 1) O from
    (K (F := F)).mayWaits_none (thr := tile d L) hO) $$ Hlv
  iapply (Transfers.wp_waitLocalO countersEmb 𝒱₀ (tile d L) none (srcw := src) (dstw := dst) (default : HIx 1) rfl) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  irw [wp_ret]; imodintro
  iapply H
  isplitl [HO]
  · isplitr; · iexact Hlv
    iexists _; isplitr
    swap; · iexact HO
    ipureintro; intro p hp
    rcases Finset.mem_insert.mp hp with hp | hp
    · exact .inr (hp ▸ rfl)
    · exact hW' p hp
  isplitr [HJ]
  · isplitl [Hd]; · iexact Hd
    isplitl [Hs]; · iexact Hs
    iexact Hv
  · iexact HJ

/-! ## The result's rows and the table's shares, dealt to the transfers -/

/-- A tile's 1600 rows of the result are its transfers' rows. -/
theorem outRows_biUnion : (Finset.univ : Finset (Fin 1600)).biUnion (fun t => outRows (pos L t).val 1) = outRows (firstRow L) 1600 := by
  ext j
  constructor
  · intro h
    rw [Finset.mem_biUnion] at h
    obtain ⟨t, -, ht⟩ := h
    have h2 : firstRow L + t.val ≤ (j 0).val ∧ (j 0).val < firstRow L + t.val + 1 := (Finset.mem_filter.mp ht).2
    have := t.isLt
    exact Finset.mem_filter.mpr ⟨Finset.mem_univ _, by omega, by omega⟩
  · intro h
    have h2 := (Finset.mem_filter.mp h).2
    rw [Finset.mem_biUnion]
    refine ⟨⟨(j 0).val - firstRow L, by omega⟩, Finset.mem_univ _, Finset.mem_filter.mpr ⟨Finset.mem_univ _, ?_⟩⟩
    show firstRow L + ((j 0).val - firstRow L) ≤ (j 0).val ∧ (j 0).val < firstRow L + ((j 0).val - firstRow L) + 1
    omega

/-- The tile's rows of the result are held row by row, one for each transfer. -/
theorem rows_split (f : Buf (Elt F) (oLoc d)) :
    (oLoc d ↦[outRows (firstRow L) 1600]{fullShare} f : sProp 𝕄) = bigSep Finset.univ fun t : Fin 1600 => oLoc d ↦[outRows (pos L t).val 1]{fullShare} f := by
  rw [← outRows_biUnion]
  refine pointsTo_biUnion _ _ fun t _ t' _ hne => Finset.disjoint_left.mpr fun j h h' => hne (Fin.ext ?_)
  have h2 : firstRow L + t.val ≤ (j 0).val ∧ (j 0).val < firstRow L + t.val + 1 := (Finset.mem_filter.mp h).2
  have h3 : firstRow L + t'.val ≤ (j 0).val ∧ (j 0).val < firstRow L + t'.val + 1 := (Finset.mem_filter.mp h').2
  omega

/-- What of the tile's copy of the table no transfer reads: of each share all rows but the one sent, and the share left over. -/
def spare : sProp 𝕄 := iprop(((tile d L).loc cc0_scratch1 ↦{Transfers.shareDrop fullShare 1600} ft)
  ∗ bigSep Finset.univ fun t : Fin 1600 => (tile d L).loc cc0_scratch1 ↦[Finset.univ \ tabRow (rowOf (word d L fi t)).val]{rowShare t} ft)

/-- The first two of three parts change places. -/
theorem swap_first (A B C : sProp 𝕄) : iprop(A ∗ B ∗ C) ⊢ iprop(B ∗ A ∗ C) := by
  iintro ⟨H1, H2, H3⟩
  isplitl [H2]; · iexact H2
  isplitl [H1] <;> iassumption

/-- The tile's copy of the table is its transfers' shares of the rows they send, and the spare. -/
theorem table_split :
    ((tile d L).loc cc0_scratch1 ↦{fullShare} ft : sProp 𝕄) ⊣⊢ iprop(bigSep Finset.univ (srcPts d L fi ft) ∗ spare d L fi ft) := by
  have e : ∀ t : Fin 1600, ((tile d L).loc cc0_scratch1 ↦{rowShare t} ft : sProp 𝕄)
      = iprop(srcPts d L fi ft t ∗ (tile d L).loc cc0_scratch1 ↦[Finset.univ \ tabRow (rowOf (word d L fi t)).val]{rowShare t} ft) := fun t =>
    BI.equiv_iff.mp ⟨(pointsTo_split_subset (Finset.subset_univ _)).1, (pointsTo_split_subset (Finset.subset_univ _)).2⟩
  have h := Transfers.pointsTo_toks (Ix := HIx 1) (U := UU) (Lvl := ℕ) (Name := ℕ) (ℓ := (tile d L).loc cc0_scratch1) (S := Finset.univ) (f := ft) fullShare 1600
  have e' : (bigSep Finset.univ fun t : Fin 1600 => ((tile d L).loc cc0_scratch1 ↦{Transfers.shareTok fullShare 1600 t} ft : sProp 𝕄))
      = iprop(bigSep Finset.univ (srcPts d L fi ft)
        ∗ bigSep Finset.univ fun t : Fin 1600 => (tile d L).loc cc0_scratch1 ↦[Finset.univ \ tabRow (rowOf (word d L fi t)).val]{rowShare t} ft) :=
    (congrArg (bigSep Finset.univ) (funext e)).trans (BI.bigSep_sep _ _ _)
  rw [e'] at h
  unfold spare
  exact ⟨BI.Entails.trans h.1 (swap_first _ _ _), BI.Entails.trans (swap_first _ _ _) h.2⟩

/-- Before the first transfer. -/
theorem rows_start :
    iprop((levAts (K (F := F)).L (K (F := F)).lev ∗ Owing d L O W) ∗ (oLoc d ↦[outRows (firstRow L) 1600]{fullShare} fo)
        ∗ bigSep Finset.univ (srcPts d L fi ft) ∗ semVal (tile d L, .dma rowSem) 0)
      ⊢ |={Set.univ}=> St d L fi ft fo O W 0 0 := by
  unfold Owing St
  rw [rows_split, Nat.zero_mul, ← Transfers.bigSep_pending_zero]
  iintro ⟨⟨Hlv, HO⟩, Ho, Ht, Hv⟩
  imod (Transfers.batch_alloc' countersEmb (tile d L) (default : HIx 1) rowUnits (sent d L fi ft) (sm := .dma rowSem) (E := Set.univ)) $$ Hv with HB
  imodintro
  isplitl [Hlv]; · iexact Hlv
  isplitl [HB]; · iexact HB
  isplitr [HO]; swap; · iexact HO
  iapply (Entails.of_eq (show iprop((bigSep Finset.univ fun t : Fin 1600 => oLoc d ↦[outRows (pos L t).val 1]{fullShare} fo) ∗ bigSep Finset.univ (srcPts d L fi ft))
    = bigSep Finset.univ (todo d L fi ft fo) from (BI.bigSep_sep _ _ _).symm))
  isplitl [Ho] <;> iassumption

/-- After the last wait. -/
theorem rows_end :
    St d L fi ft fo O W 1600 1600
      ⊢ |={Set.univ}=> iprop(Owing d L O W ∗ (oLoc d ↦[outRows (firstRow L) 1600]{fullShare} looked fi ft)
        ∗ bigSep Finset.univ (srcPts d L fi ft) ∗ semVal (tile d L, .dma rowSem) 0) := by
  unfold Owing St
  rw [rows_split, Nat.mul_comm]
  iintro ⟨-, HB, -, HO⟩
  imod (Transfers.batch_collect' countersEmb (tile d L) rowUnits_pos) $$ HB with ⟨HD, Hv⟩
  imodintro
  isplitl [HO]; · iexact HO
  ihave H := (Entails.of_eq (show bigSep Finset.univ (sent d L fi ft)
    = iprop((bigSep Finset.univ fun t : Fin 1600 => oLoc d ↦[outRows (pos L t).val 1]{fullShare} looked fi ft) ∗ bigSep Finset.univ (srcPts d L fi ft))
    from BI.bigSep_sep _ _ _)) $$ HD
  icases H with ⟨H1, H2⟩
  isplitl [H1]; · iexact H1
  isplitl [H2]; · iexact H2
  iexact Hv

end Cert.Proof.Lookup

end
-- ==== Proof.Body.lean ====
/-
  The whole of one tile's program: the copies of its indices and of the table into its own memory, the first sixteen row
  transfers, the two loops, and what the tile then hands back.
-/
module

public import proofs.«01_k».proof.Proof.Parts

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (fi : Buf (Elt F) (nLoc d)) (ft : Buf (Elt F) (tLoc d)) (fo : Buf (Elt F) (oLoc d))
variable (O : CellTallies nD τ sig (HIx 1)) (W : Waits sig (HIx 1)) (q : PosShare TreeShare)

/-- A ghost step before a program. -/
theorem upd_step {α : Type} {X Y : sProp 𝕄} {p : Prog _ α} {Q : α → sProp 𝕄} (h : X ⊢ |={Set.univ}=> Y)
    (H : Y ⊢ wp frame (wpE (defs₀ (F := F)) 𝒱₀ (tile d L) none) Set.univ p Q) : X ⊢ wp frame (wpE (defs₀ (F := F)) 𝒱₀ (tile d L) none) Set.univ p Q := by
  iintro HX
  imod h $$ HX with HY
  iapply H
  iexact HY

/-- A ghost step at the end of a program. -/
theorem end_step {α : Type} {X : sProp 𝕄} {a : α} {Q : α → sProp 𝕄} (H : X ⊢ |={Set.univ}=> Q a) :
    X ⊢ wp frame (wpE (defs₀ (F := F)) 𝒱₀ (tile d L) none) Set.univ (pure a) Q := by
  rw [wp_pure]
  exact H

/-- What the fetch of the indices leaves in the tile's copy. -/
theorem idx_written (fs : Buf (Elt F) ((tile d L).loc cc0_scratch0)) :
    jV.view.write (Elt F) fs ((ReadAs.same (Val := Elt F)).apply ((idxBlock L).view.read (Elt F) fi)) Finset.univ = fun j => fi (ix1 (pos L (j 0))) := by
  rw [View.write_whole_univ]
  funext j
  refine (cast_eq _ _).trans (congrArg fi ?_)
  exact (congrArg (idxBlock L).view.emb (eq_ix1 j)).trans (emb_idxBlock L (j 0))

/-- What the fetch of the table leaves in the tile's copy. -/
theorem tab_written (fr : Buf (Elt F) ((tile d L).loc cc0_scratch1)) :
    rV.view.write (Elt F) fr ((ReadAs.same (Val := Elt F)).apply (tV.view.read (Elt F) ft)) Finset.univ = ft := by
  rw [View.write_whole_univ]
  simp only [Memref.view_whole, View.read_whole]

/-- The tile's cells: the row transfers', the index fetch's, the table fetch's. -/
abbrev cellR : GSem nD τ sig := (tile d L, .dma cc0_scratch2.sem)
abbrev cellI : GSem nD τ sig := (tile d L, .dma cc0_scoped0.sem)
abbrev cellT : GSem nD τ sig := (tile d L, .dma cc0_scoped1.sem)

/-- What the row transfers leave alone: the tile's indices and table share in the launch's arrays, the fetches' cells, and
    the part of the table's copy that no transfer reads. -/
def aside : sProp 𝕄 := iprop((nLoc d ↦[idxRange (firstRow L) 1600]{fullShare} fi) ∗ semVal (cellI d L) 0 ∗ (tLoc d ↦{q} ft) ∗ semVal (cellT d L) 0
  ∗ spare d L fi ft)

set_option maxHeartbeats 4000000 in
/-- A tile's task, from its indices, its share of the table, its rows of the result, its two scratch buffers and its three
    cells at zero: it gives all back, the rows of the result holding the looked-up rows. -/
theorem tile_run (hO : ∀ g, O g none = 0) (hfi : ∀ j, (fi j : BitVec 32).toNat < 30)
    (fs : Buf (Elt F) ((tile d L).loc cc0_scratch0)) (fr : Buf (Elt F) ((tile d L).loc cc0_scratch1)) :
    iprop((levAts (K (F := F)).L (K (F := F)).lev ∗ Owing d L O W)
        ∗ (((tile d L).loc cc0_scratch0 ↦{fullShare} fs) ∗ (nLoc d ↦[idxRange (firstRow L) 1600]{fullShare} fi) ∗ semVal (cellI d L) 0)
        ∗ (((tile d L).loc cc0_scratch1 ↦{fullShare} fr) ∗ (tLoc d ↦{q} ft) ∗ semVal (cellT d L) 0)
        ∗ (oLoc d ↦[outRows (firstRow L) 1600]{fullShare} fo) ∗ semVal (cellR d L) 0)
      ⊢ wp frame (wpE (defs₀ (F := F)) 𝒱₀ (tile d L) none) Set.univ
          (cc0_k (F := F) L nV (Memref.isWhole_whole _) tV (Memref.isWhole_whole _) oV (Memref.isWhole_whole _) jV (Memref.isWhole_whole _) rV (Memref.isWhole_whole _)
            cc0_scratch2 cc0_scoped0 cc0_scoped1)
          fun _ => iprop(Owing d L O W
            ∗ ((∃ f, (tile d L).loc cc0_scratch0 ↦{fullShare} f) ∗ (nLoc d ↦[idxRange (firstRow L) 1600]{fullShare} fi) ∗ semVal (cellI d L) 0)
            ∗ ((∃ f, (tile d L).loc cc0_scratch1 ↦{fullShare} f) ∗ (tLoc d ↦{q} ft) ∗ semVal (cellT d L) 0)
            ∗ (oLoc d ↦[outRows (firstRow L) 1600]{fullShare} looked fi ft) ∗ semVal (cellR d L) 0) := by
  simp only [cc0_k_eq_skeleton]; unfold cc0_k_skel
  simp only [k0_part10_eq_skeleton, k0_part11_eq_skeleton, k0_part12_eq_skeleton, k0_part13_eq_skeleton, k0_part14_eq_skeleton]
  unfold k0_part10_skel k0_part11_skel k0_part12_skel k0_part13_skel k0_part14_skel
  simp only [bind_assoc, pure_bind]
  simp only [wp_bind]
  have hi : ((idxBlock L).view.loc (tile d L) ↦[(idxBlock L).view.set]{fullShare} fi : sProp 𝕄) = nLoc d ↦[idxRange (firstRow L) 1600]{fullShare} fi := by
    rw [set_idxBlock]
  have ht : (tV.view.loc (tile d L) ↦[tV.view.set]{q} ft : sProp 𝕄) = tLoc d ↦{q} ft := by
    rw [show tV.view.set = Finset.univ from View.set_whole _]
  rw [← hi, ← ht]
  refine fetch_step d L O W (src := idxBlock L) (dst := jV) hO fi fs (by decide) ?_
  rw [idx_written d L fi fs]
  refine BI.Entails.trans (sep_mono_right (swap_first _ _ _)) ?_
  refine fetch_step d L O W (src := tV) (dst := rV) hO ft fr (by decide) ?_
  rw [tab_written d L ft fr, hi, ht]
  refine upd_step d L (Y := iprop((jPts d L fi ∗ aside d L fi ft q) ∗ St d L fi ft fo O W 0 0)) ?_ ?_
  · unfold aside jPts
    iintro ⟨Hlo, ⟨Hr, Ht, HvT⟩, ⟨Hj, Hi, HvI⟩, Ho, HvR⟩
    ihave Hr := (table_split d L fi ft).1 $$ Hr
    icases Hr with ⟨Hrows, Hspare⟩
    imod (rows_start d L fi ft fo O W) $$ [Hlo Ho Hrows HvR] with HSt
    · isplitl [Hlo]; · iexact Hlo
      isplitl [Ho]; · iexact Ho
      isplitl [Hrows] <;> iassumption
    imodintro
    isplitr [HSt]; swap; · iexact HSt
    isplitl [Hj]; · iexact Hj
    isplitl [Hi]; · iexact Hi
    isplitl [HvI]; · iexact HvI
    isplitl [Ht]; · iexact Ht
    isplitl [HvT] <;> iassumption
  refine load_step d L fi 0 (by decide) rfl fun v hv => ?_
  have hx : ∀ i : Fin 16, k0_pay18 (F := F) v (ix1 i) = word d L fi ⟨0 + i.val, by omega⟩ := fun i => by
    unfold k0_pay18; rw [lanes_self]; exact hv i
  refine first_step d L fi ft fo O W (a := 0) (ha := by decide) (h := fun p => p) hfi hx (by decide) id rfl (k0_off3_eq L) fun _ => ?_
  refine first_step d L fi ft fo O W (a := 0) (ha := by decide) (h := fun p => p) hfi hx (by decide) id rfl (k0_off5_eq L) fun _ => ?_
  refine first_step d L fi ft fo O W (a := 0) (ha := by decide) (h := fun p => p) hfi hx (by decide) id rfl (k0_off7_eq L) fun _ => ?_
  refine first_step d L fi ft fo O W (a := 0) (ha := by decide) (h := fun p => p) hfi hx (by decide) id rfl (k0_off9_eq L) fun _ => ?_
  refine first_step d L fi ft fo O W (a := 0) (ha := by decide) (h := fun p => p) hfi hx (by decide) id rfl (k0_off11_eq L) fun _ => ?_
  refine first_step d L fi ft fo O W (a := 0) (ha := by decide) (h := fun p => p) hfi hx (by decide) id rfl (k0_off13_eq L) fun _ => ?_
  refine first_step d L fi ft fo O W (a := 0) (ha := by decide) (h := fun p => p) hfi hx (by decide) id rfl (k0_off15_eq L) fun _ => ?_
  refine first_step d L fi ft fo O W (a := 0) (ha := by decide) (h := fun p => p) hfi hx (by decide) id rfl (k0_off17_eq L) fun _ => ?_
  refine first_step d L fi ft fo O W (a := 0) (ha := by decide) (h := fun p => p) hfi hx (by decide) id rfl (k0_off19_eq L) fun _ => ?_
  refine first_step d L fi ft fo O W (a := 0) (ha := by decide) (h := fun p => p) hfi hx (by decide) id rfl (k0_off21_eq L) fun _ => ?_
  refine first_step d L fi ft fo O W (a := 0) (ha := by decide) (h := fun p => p) hfi hx (by decide) id rfl (k0_off23_eq L) fun _ => ?_
  refine first_step d L fi ft fo O W (a := 0) (ha := by decide) (h := fun p => p) hfi hx (by decide) id rfl (k0_off25_eq L) fun _ => ?_
  refine first_step d L fi ft fo O W (a := 0) (ha := by decide) (h := fun p => p) hfi hx (by decide) id rfl (k0_off27_eq L) fun _ => ?_
  refine first_step d L fi ft fo O W (a := 0) (ha := by decide) (h := fun p => p) hfi hx (by decide) id rfl (k0_off29_eq L) fun _ => ?_
  refine first_step d L fi ft fo O W (a := 0) (ha := by decide) (h := fun p => p) hfi hx (by decide) id rfl (k0_off31_eq L) fun _ => ?_
  refine first_step d L fi ft fo O W (a := 0) (ha := by decide) (h := fun p => p) hfi hx (by decide) id rfl (k0_off33_eq L) fun _ => ?_
  refine loop_step d L (fun k => iprop((jPts d L fi ∗ aside d L fi ft q) ∗ St d L fi ft fo O W (16 * k + 16) (16 * k)))
    (fun t => trip d L fi ft fo O W hO hfi _ t) BIBase.Entails.rfl ?_
  refine loop_step d L (fun k => iprop((jPts d L fi ∗ aside d L fi ft q) ∗ St d L fi ft fo O W 1600 (1584 + k)))
    (fun t => drain d L fi ft fo O W hO t) BIBase.Entails.rfl ?_
  refine end_step d L ?_
  rw [show 1584 + k0_t2_loop.trips = 1600 by decide]
  unfold aside jPts
  iintro ⟨⟨Hj, Hi, HvI, Ht, HvT, Hspare⟩, HSt⟩
  imod (rows_end d L fi ft fo O W) $$ HSt with ⟨HO, Ho, Hrows, HvR⟩
  imodintro
  isplitl [HO]; · iexact HO
  isplitl [Hj Hi HvI]
  · isplitl [Hj]; · iexists _; iexact Hj
    isplitl [Hi] <;> iassumption
  isplitl [Hrows Hspare Ht HvT]
  · isplitl [Hrows Hspare]
    · iexists ft; iapply (table_split d L fi ft).2; isplitl [Hrows] <;> iassumption
    isplitl [Ht] <;> iassumption
  isplitl [Ho] <;> iassumption

/-! ## The task as the launch hands it over -/

omit [FloatOps F] in
/-- The tile's own cells: the three its transfers count on, and the rest. -/
theorem ownSems0_cells :
    (ownSems0 (tile d L) : sProp 𝕄)
      = iprop(semVal (cellI d L) 0 ∗ semVal (cellT d L) 0 ∗ semVal (cellR d L) 0
          ∗ bigSep ((((ownCells (tile d L)).erase (cellI d L)).erase (cellT d L)).erase (cellR d L)) fun g => semVal g 0) := by
  have hI : cellI d L ∈ ownCells (tile d L) := mem_ownCells.mpr ⟨rfl, by
    show (SemLoc.dma cc0_scoped0.sem : SemLoc sig).isScoped .scVector = true; decide⟩
  have hT : cellT d L ∈ ownCells (tile d L) := mem_ownCells.mpr ⟨rfl, by
    show (SemLoc.dma cc0_scoped1.sem : SemLoc sig).isScoped .scVector = true; decide⟩
  have hR : cellR d L ∈ ownCells (tile d L) := mem_ownCells.mpr ⟨rfl, by
    show (SemLoc.dma cc0_scratch2.sem : SemLoc sig).isScoped .scVector = true; decide⟩
  have hTI : cellT d L ≠ cellI d L := by simp [cellT, cellI]; decide
  have hRI : cellR d L ≠ cellI d L := by simp [cellR, cellI]; decide
  have hRT : cellR d L ≠ cellT d L := by simp [cellR, cellT]; decide
  unfold SparseCore.Cfg.ownSems0
  rw [SparseCore.bigSep_erase' hI, SparseCore.bigSep_erase' (Finset.mem_erase.mpr ⟨hTI, hT⟩),
    SparseCore.bigSep_erase' (Finset.mem_erase.mpr ⟨hRT, Finset.mem_erase.mpr ⟨hRI, hR⟩⟩)]

omit [FloatOps F] in
/-- The tile's own buffers: the two it fetches into, and the rest. -/
theorem ownBufs_two :
    (ownBufs (tile d L) : sProp 𝕄)
      = iprop((∃ f, (tile d L).loc cc0_scratch0 ↦{fullShare} f) ∗ (∃ f, (tile d L).loc cc0_scratch1 ↦{fullShare} f)
          ∗ bigSep (((ownRefs (τ := τ) (tile d L).2).erase ((tile d L).2.devRef cc0_scratch0)).erase ((tile d L).2.devRef cc0_scratch1))
              fun b => iprop(∃ f, ((d, b) : Loc nD τ sig) ↦{fullShare} f)) := by
  have h0 : (tile d L).2.devRef cc0_scratch0 ∈ ownRefs (τ := τ) (tile d L).2 := SparseCore.Cfg.mem_ownRefs_of_owner rfl
  have h1 : (tile d L).2.devRef cc0_scratch1 ∈ ownRefs (τ := τ) (tile d L).2 := SparseCore.Cfg.mem_ownRefs_of_owner rfl
  have hne : (tile d L).2.devRef cc0_scratch1 ≠ (tile d L).2.devRef cc0_scratch0 :=
    fun e => absurd (Proc.devRef_injective _ e) (show (cc0_scratch1 : Ref sig .scVector) ≠ cc0_scratch0 by decide)
  unfold SparseCore.Cfg.ownBufs
  refine (SparseCore.bigSep_erase' h0).trans ?_
  rw [SparseCore.bigSep_erase' (Finset.mem_erase.mpr ⟨hne, h1⟩)]

/-- The three buffers a tile is handed, its rows of the result at `f`: its indices, its share of the table, those rows. -/
def part (f : Buf (Elt F) (oLoc d)) : sProp 𝕄 :=
  iprop((nLoc d ↦[idxRange (firstRow L) 1600]{fullShare} fi) ∗ (tLoc d ↦{q} ft) ∗ oLoc d ↦[outRows (firstRow L) 1600]{fullShare} f)

/-- A tile's task in the form the launch asks for: from its part of the operands, its own buffers and its own cells, the
    same back, its rows of the result holding the looked-up rows. -/
theorem tile_task (hO : ∀ g, O g none = 0) (hfi : ∀ j, (fi j : BitVec 32).toNat < 30) :
    iprop(levAts (K (F := F)).L (K (F := F)).lev ∗ emp ∗ part d L fi ft q fo
        ∗ scopedBufs (tile d L) ∗ scopedSems0 (tile d L) ∗ owes (tile d L) O W)
      ⊢ wp frame (wpE (defs₀ (F := F)) 𝒱₀ (tile d L) none) Set.univ
          (cc0_k (F := F) L nV (Memref.isWhole_whole _) tV (Memref.isWhole_whole _) oV (Memref.isWhole_whole _) jV (Memref.isWhole_whole _) rV (Memref.isWhole_whole _)
            cc0_scratch2 cc0_scoped0 cc0_scoped1)
          fun _ => iprop(part d L fi ft q (looked fi ft) ∗ scopedBufs (tile d L) ∗ scopedSems0 (tile d L)
            ∗ ∃ W', ⌜∀ p ∈ W', p ∈ W ∨ p.2 = none⌝ ∗ owes (tile d L) O W') := by
  rw [(K (F := F)).scopedBufs_V facts d ((L 0).castLE hcore0) ((L 1).castLE hsub0),
    SparseCore.Cfg.scopedSems0_V (Val := Elt F) d ((L 0).castLE hcore0) ((L 1).castLE hsub0), ownSems0_cells, ownBufs_two]
  unfold part
  iintro ⟨Hlv, -, ⟨Hi, Ht, Ho⟩, ⟨⟨%fs, Hs⟩, ⟨%fr, Hr⟩, Hbufs⟩, ⟨HvI, HvT, HvR, Hsems⟩, HO⟩
  ihave Hrun := (tile_run d L fi ft fo O W q hO hfi fs fr) $$ [Hlv HO Hs Hi HvI Hr Ht HvT Ho HvR]
  · unfold Owing
    isplitl [Hlv HO]
    · isplitl [Hlv]; · iexact Hlv
      iexists W; isplitr; · ipureintro; exact fun p hp => .inl hp
      iexact HO
    isplitl [Hs Hi HvI]
    · isplitl [Hs]; · iexact Hs
      isplitl [Hi] <;> iassumption
    isplitl [Hr Ht HvT]
    · isplitl [Hr]; · iexact Hr
      isplitl [Ht] <;> iassumption
    isplitl [Ho] <;> iassumption
  iapply (wp_wand frame _ _) $$ Hrun
  iintro %x ⟨HO, ⟨Hs, Hi, HvI⟩, ⟨Hr, Ht, HvT⟩, Ho, HvR⟩
  isplitl [Hi Ht Ho]
  · isplitl [Hi]; · iexact Hi
    isplitl [Ht] <;> iassumption
  isplitl [Hs Hr Hbufs]
  · isplitl [Hs]; · iexact Hs
    isplitl [Hr] <;> iassumption
  isplitl [HvI HvT HvR Hsems]
  · isplitl [HvI]; · iexact HvI
    isplitl [HvT]; · iexact HvT
    isplitl [HvR] <;> iassumption
  unfold Owing; iexact HO

end Cert.Proof.Lookup

end
-- ==== Proof.Launch.lean ====
/-
  The launch around the tiles: the operands dealt to the tiles of two SparseCores and collected again, and the TensorCore's
  program — the indices transposed and flattened, the call, the rows split and transposed into the result — run to its end.
-/
module

public import proofs.«01_k».proof.Proof.Body
public import Idealize.ShloMosaic.Lib.Pipeline.Frame

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays on the way -/

/-- The indices as the call reads them: transposed and flattened, so that position `1024 l + b` holds `x[b, l]`. -/
def flat (x : S1024x50.Idx → BitVec 32) : S51200.Idx → BitVec 32 :=
  shapeCast S51200 (transpose S50x1024 [1, 0] x transposes_S1024x50_S50x1024_1_0) shapeCasts_S50x1024_S51200

/-- The result made of the call's: its rows split into 50 blocks of 1024, the two outer dimensions exchanged. -/
def folded (y : S51200x2048.Idx → F .f32) : S1024x50x2048.Idx → F .f32 :=
  transpose S1024x50x2048 [1, 0, 2] (shapeCast S50x1024x2048 y shapeCasts_S51200x2048_S50x1024x2048) transposes_S50x1024x2048_S1024x50x2048_1_0_2

/-- The program's argument of indices, and its result. -/
abbrev xLoc (d : Dev nD) : Loc nD τ sig := (SparseCore.T d).loc main_arg0
abbrev rLoc (d : Dev nD) : Loc nD τ sig := (SparseCore.T d).loc main_v4

/-- The flattened indices on device `d`, of what its memory holds at the launch. -/
abbrev idxOf (d : Dev nD) : Buf (Elt F) (nLoc d) := flat (m (xLoc d))

/-- Every index on every device names a row of the table. -/
def InTable : Prop := ∀ d j, (idxOf m d j : BitVec 32).toNat < 30

/-! ## What a tile is handed, and hands back -/

/-- Tile `(c, s)` as grid coordinates. -/
def coordsOf (c : Fin (grid0.bound 0)) (s : Fin (grid0.bound 1)) : grid0.Coords :=
  fun | 0 => c | 1 => s | ⟨_ + 2, h⟩ => absurd h (Nat.not_lt.2 (Nat.le_add_left _ _))

/-- The tile's read share of the table: a half for its SparseCore, a sixteenth of that for itself. -/
def shareOf (c : Fin 2) (s : Fin 16) : PosShare TreeShare := ShareLeaves.leaf 4 (ShareLeaves.leaf 1 fullShare c) s

/-- The tile's part of the three operands, its rows of the result at `f`. -/
abbrev partOf (d : Dev nD) (f : Buf (Elt F) (oLoc d)) (c : Fin 2) (s : Fin 16) : sProp 𝕄 :=
  part d (coordsOf c s) (idxOf m d) (m (tLoc d)) (shareOf c s) f

/-- A buffer whole is its parts, one a tile, when the parts cover it and no two meet. -/
theorem pts_tiles {ℓ : Loc nD τ sig} {q : PosShare TreeShare} (f : Buf (Elt F) ℓ) (I : Fin 2 → Fin 16 → Finset (Idx ℓ))
    (hmeet : ∀ c s c' s' j, j ∈ I c s → j ∈ I c' s' → c = c' ∧ s = s') (hcover : ∀ j, ∃ c s, j ∈ I c s) :
    (ℓ ↦{q} f : sProp 𝕄) = bigSep Finset.univ fun c : Fin 2 => bigSep Finset.univ fun s : Fin 16 => ℓ ↦[I c s]{q} f := by
  have hu : (Finset.univ : Finset (Idx ℓ)) = Finset.univ.biUnion fun c => Finset.univ.biUnion (I c) := by
    refine (Finset.eq_univ_iff_forall.mpr fun j => ?_).symm
    obtain ⟨c, s, h⟩ := hcover j
    exact Finset.mem_biUnion.mpr ⟨c, Finset.mem_univ _, Finset.mem_biUnion.mpr ⟨s, Finset.mem_univ _, h⟩⟩
  rw [hu, pointsTo_biUnion]
  · refine bigSep_congr fun c _ => pointsTo_biUnion _ _ fun s _ s' _ hne => Finset.disjoint_left.mpr fun j h h' => hne (hmeet _ _ _ _ j h h').2
  · intro c _ c' _ hne
    refine Finset.disjoint_left.mpr fun j h h' => ?_
    obtain ⟨s, -, hs⟩ := Finset.mem_biUnion.mp h
    obtain ⟨s', -, hs'⟩ := Finset.mem_biUnion.mp h'
    exact hne (hmeet _ _ _ _ j hs hs').1

/-- Tile `(c, s)`'s 1600 positions start at `1600 (2 s + c)`. -/
theorem firstRow_coordsOf (c : Fin 2) (s : Fin 16) : firstRow (coordsOf c s) = 3200 * s.val + 1600 * c.val := rfl

/-- A position lies in the 1600 of one tile only. -/
theorem tile_unique {n : ℕ} {c c' : Fin 2} {s s' : Fin 16} (h : firstRow (coordsOf c s) ≤ n ∧ n < firstRow (coordsOf c s) + 1600)
    (h' : firstRow (coordsOf c' s') ≤ n ∧ n < firstRow (coordsOf c' s') + 1600) : c = c' ∧ s = s' := by
  rw [firstRow_coordsOf] at h h'
  exact ⟨Fin.ext (by omega), Fin.ext (by omega)⟩

/-- Every position lies in the 1600 of some tile. -/
theorem tile_exists {n : ℕ} (hn : n < 51200) : ∃ (c : Fin 2) (s : Fin 16), firstRow (coordsOf c s) ≤ n ∧ n < firstRow (coordsOf c s) + 1600 :=
  ⟨⟨n / 1600 % 2, by omega⟩, ⟨n / 3200, by omega⟩, by
    rw [firstRow_coordsOf]
    show 3200 * (n / 3200) + 1600 * (n / 1600 % 2) ≤ n ∧ n < 3200 * (n / 3200) + 1600 * (n / 1600 % 2) + 1600
    omega⟩

/-- All three operands whole, the result at `f`, are the tiles' parts. -/
theorem deal (d : Dev nD) (f : Buf (Elt F) (oLoc d)) :
    iprop((nLoc d ↦{fullShare} idxOf m d) ∗ (tLoc d ↦{fullShare} m (tLoc d)) ∗ oLoc d ↦{fullShare} f)
      = bigSep Finset.univ fun c : Fin 2 => bigSep Finset.univ fun s : Fin 16 => partOf m d f c s := by
  rw [pts_tiles (ℓ := nLoc d) _ (fun c s => idxRange (firstRow (coordsOf c s)) 1600)
      (fun _ _ _ _ _ h h' => tile_unique (Finset.mem_filter.mp h).2 (Finset.mem_filter.mp h').2)
      (fun j => let ⟨c, s, h⟩ := tile_exists (j 0).isLt; ⟨c, s, Finset.mem_filter.mpr ⟨Finset.mem_univ _, h⟩⟩),
    pts_tiles (ℓ := oLoc d) _ (fun c s => outRows (firstRow (coordsOf c s)) 1600)
      (fun _ _ _ _ _ h h' => tile_unique (Finset.mem_filter.mp h).2 (Finset.mem_filter.mp h').2)
      (fun j => let ⟨c, s, h⟩ := tile_exists (j 0).isLt; ⟨c, s, Finset.mem_filter.mpr ⟨Finset.mem_univ _, h⟩⟩),
    show (tLoc d ↦{fullShare} m (tLoc d) : sProp 𝕄) = bigSep Finset.univ fun c : Fin 2 => bigSep Finset.univ fun s : Fin 16 =>
        tLoc d ↦{shareOf c s} m (tLoc d) from
      (ShareLeaves.pointsTo_leaves Finset.univ _ 1 fullShare).trans (bigSep_congr fun c _ => ShareLeaves.pointsTo_leaves Finset.univ _ 4 _)]
  simp only [← bigSep_sep']
  rfl

/-! ## The call's obligations -/

section Call

variable [FloatOps F]

/-- The call's result on device `d`: row `n` is the table's row at the flattened index `n`. -/
abbrev rowsOf (d : Dev nD) : Buf (Elt F) (oLoc d) := looked (idxOf m d) (m (tLoc d))

/-- What the handshakes of the call carry: to each SparseCore its sixteen tiles' parts, to each tile its own; and back the
    same, the rows of the result looked up. -/
def P : (K (F := F)).Pay (nD := nD) (Val := Elt F) (Name := ℕ) (U := UU) where
  st := fun q d c => match q with | 0 => bigSep Finset.univ fun s : Fin 16 => partOf m d (m (oLoc d)) (Fin.cast nCore_zero c) s
  dn := fun q d c => match q with | 0 => bigSep Finset.univ fun s : Fin 16 => partOf m d (rowsOf m d) (Fin.cast nCore_zero c) s
  go := fun q d c s => match q with | 0 => partOf m d (m (oLoc d)) (Fin.cast nCore_zero c) (Fin.cast nSub_zero s)
  td := fun q d c s => match q with | 0 => partOf m d (rowsOf m d) (Fin.cast nCore_zero c) (Fin.cast nSub_zero s)
  x := fun _ _ => iprop(emp)

/-- A tile's part can be handed over in a handshake, -/
instance part_storable (d : Dev nD) (L : grid0.Coords) (fi ft q f) : BI.Storable (upEmb : UEmb _ 𝕄) (part d L fi ft q f) := by
  unfold part; infer_instance

/-- so can the sixteen parts of one SparseCore, -/
theorem parts_storable (d : Dev nD) (f : Buf (Elt F) (oLoc d)) (c : Fin 2) :
    BI.Storable (upEmb : UEmb _ 𝕄) (bigSep Finset.univ fun s : Fin 16 => partOf m d f c s) := by
  have : ∀ s : Fin 16, BI.Storable (upEmb : UEmb _ 𝕄) (partOf m d f c s) := fun s => part_storable d _ _ _ _ _
  exact BI.Storable.bigSep _ _ _

/-- and so all that the handshakes carry. -/
instance P_storable : (P m).IsStorable where
  st := fun q d c => match q with
    | 0 => parts_storable m d _ _
  dn := fun q d c => match q with
    | 0 => parts_storable m d _ _
  go := fun q d c s => match q with
    | 0 => (inferInstance : BI.Storable (upEmb : UEmb _ 𝕄) (partOf m d (m (oLoc d)) (Fin.cast nCore_zero c) (Fin.cast nSub_zero s)))
  td := fun q d c s => match q with
    | 0 => (inferInstance : BI.Storable (upEmb : UEmb _ 𝕄) (partOf m d (rowsOf m d) (Fin.cast nCore_zero c) (Fin.cast nSub_zero s)))

/-- The call's task on a tile is the kernel's function at the tile's coordinates. -/
theorem task_eq (c : Fin τ.nSC) (s : Fin τ.nSub) :
    defs₀ (F := F) (.scVector c s) 0 ()
      = SparseCore.onTile hcore0 hsub0 (fun c s => cc0_k (coordsOf c s)
          nV (Memref.isWhole_whole _) tV (Memref.isWhole_whole _) oV (Memref.isWhole_whole _)
          jV (Memref.isWhole_whole _) rV (Memref.isWhole_whole _) cc0_scratch2 cc0_scoped0 cc0_scoped1) ⟨⟩ c s := rfl

/-- Waits of a task's own are among the waits the call allows it. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; exact fun p hp => (hW p hp).imp_right .inl
  iexact HO

set_option maxRecDepth 16384 in
/-- Every tile does its task. -/
theorem tasks (hin : InTable m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact (tile_task d (coordsOf ⟨_, hci.1⟩ ⟨_, hci.2⟩) (idxOf m d) (m (tLoc d)) (m (oLoc d)) O W _ hO (hin d)).trans (wp_mono frame _ _ fun _ => own_waits)

/-- A SparseCore's share of the operands is its tiles' parts. -/
theorem shares : (K (F := F)).VecSplit' (P m) 0 := by
  intro d c
  have key : ∀ X Y : sProp 𝕄, X ⊢ |={Set.univ}=> iprop(X ∗ (Y -∗ Y)) := fun X Y => by
    iintro H; imodintro
    isplitl [H]; · iexact H
    iintro H; iexact H
  exact key _ _

/-- The launch's ghost state: the handshakes' cells, and nothing of the tiles' own. -/
def u₀ : UU := (initOf (K (F := F)).hsCells (K (F := F)).hsToks, 1)

/-- The launch's ghost state is the handshakes', with nothing over for the tiles. -/
theorem ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ (J : Type) (s : Finset J), (bigSep s fun _ => iprop(emp)) = (iprop(emp) : sProp 𝕄) := fun _ s => bigSep_emp_const s
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (hemp _ _)
  rw [hx, hemp]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore's program -/

/-- A buffer of the TensorCore's, as one of the device's. -/
abbrev dev (b : Ref sig .tc) : DevRef τ sig := Proc.devRef .tc b

/-- The four operations around the call. -/
abbrev opSwap : HloOp τ sig (Elt F) := StableHlo.unary main_arg0 main_v0
  ((transpose S50x1024 [1, 0] · transposes_S1024x50_S50x1024_1_0) : (⟨S1024x50, .i32⟩ : BufTy).Contents (Elt F) → (⟨S50x1024, .i32⟩ : BufTy).Contents (Elt F))
abbrev opFlat : HloOp τ sig (Elt F) := StableHlo.reshape main_v0 main_v1 (rfl : (.i32 : EltTy) = .i32) shapeCasts_S50x1024_S51200
abbrev opFold : HloOp τ sig (Elt F) := StableHlo.reshape main_v2 main_v3 (rfl : (.f32 : EltTy) = .f32) shapeCasts_S51200x2048_S50x1024x2048
abbrev opBack : HloOp τ sig (Elt F) := StableHlo.unary main_v3 main_v4
  ((transpose S1024x50x2048 [1, 0, 2] · transposes_S50x1024x2048_S1024x50x2048_1_0_2) : (⟨S50x1024x2048, .f32⟩ : BufTy).Contents (Elt F) → (⟨S1024x50x2048, .f32⟩ : BufTy).Contents (Elt F))

/-- What the buffers hold at the launch, before the call, after it, and at the end. -/
abbrev atLaunch (d : Dev nD) : Valuation τ sig (Elt F) := fun b => m (d, b)
abbrev atCall (d : Dev nD) : Valuation τ sig (Elt F) := opFlat.result (opSwap.result (atLaunch m d))
abbrev afterCall (d : Dev nD) : Valuation τ sig (Elt F) := Function.update (atCall m d) (dev main_v2) (rowsOf m d)
abbrev atEnd (d : Dev nD) : Valuation τ sig (Elt F) := opBack.result (opFold.result (afterCall m d))

/-- The buffers outside the kernel's own, one by one. -/
theorem buffers (d : Dev nD) (W : Valuation τ sig (Elt F)) :
    (StableHlo.held (d.tc : Thread nD τ) (Pipeline.ucRefs τ sig) W : sProp 𝕄)
      = iprop((xLoc d ↦{fullShare} W (dev main_arg0)) ∗ (tLoc d ↦{fullShare} W (dev main_arg1)) ∗ (((d, dev main_v0) : Loc nD τ sig) ↦{fullShare} W (dev main_v0))
        ∗ (nLoc d ↦{fullShare} W (dev main_v1)) ∗ (oLoc d ↦{fullShare} W (dev main_v2)) ∗ (((d, dev main_v3) : Loc nD τ sig) ↦{fullShare} W (dev main_v3))
        ∗ (rLoc d ↦{fullShare} W (dev main_v4))) := by
  unfold StableHlo.held
  rw [bigSep_eq_bigSepL_of_eq [dev main_arg0, dev main_arg1, dev main_v0, dev main_v1, dev main_v2, dev main_v3, dev main_v4] (by decide) (by decide)]
  rfl

/-- Before the call the indices are flattened, -/
theorem atCall_idx (d : Dev nD) : atCall m d (dev main_v1) = idxOf m d := by
  refine (StableHlo.reshape_result _ _ _ _ _ _ _).trans ?_
  rw [StableHlo.unary_result]
  rfl

/-- and the other buffers, but for the transposed indices, are as at the launch. -/
theorem atCall_of_ne (d : Dev nD) {b : Ref sig .tc} (h0 : b ≠ main_v0) (h1 : b ≠ main_v1) : atCall m d (dev b) = m (d, dev b) :=
  (StableHlo.reshape_result_ne _ _ _ _ _ _ _ h1).trans (StableHlo.unary_result_ne _ _ _ _ _ _ h0)

/-- After the call all but its result is as before it. -/
theorem afterCall_of_ne (d : Dev nD) {b : Ref sig .tc} (h : b ≠ main_v2) : afterCall m d (dev b) = atCall m d (dev b) :=
  Function.update_of_ne (fun e => h (Proc.devRef_injective _ e)) _ _

/-- At the end the result is the call's rows, split and transposed, -/
theorem atEnd_result (d : Dev nD) : atEnd m d (dev main_v4) = folded (rowsOf m d) := by
  refine (StableHlo.unary_result _ _ _ _ _ _).trans ?_
  rw [StableHlo.reshape_result, show afterCall m d (dev main_v2) = rowsOf m d from Function.update_self _ _ _]
  rfl

/-- and the arguments are as at the launch. -/
theorem atEnd_of_ne (d : Dev nD) {b : Ref sig .tc} (h0 : b ≠ main_v0) (h1 : b ≠ main_v1) (h2 : b ≠ main_v2) (h3 : b ≠ main_v3) (h4 : b ≠ main_v4) :
    atEnd m d (dev b) = m (d, dev b) :=
  (StableHlo.unary_result_ne _ _ _ _ _ _ h4).trans ((StableHlo.reshape_result_ne _ _ _ _ _ _ _ h3).trans
    ((afterCall_of_ne m d h2).trans (atCall_of_ne m d h0 h1)))

/-- What the program ends with on device `d`: its two arguments as they were, and its result. -/
abbrev FIN (d : Dev nD) : sProp 𝕄 :=
  iprop((xLoc d ↦{fullShare} m (xLoc d)) ∗ (tLoc d ↦{fullShare} m (tLoc d)) ∗ (rLoc d ↦{fullShare} folded (rowsOf m d)))

/-- The buffers before the call are the parts that go to the SparseCores, and what makes the buffers after the call of the
    parts that come back. -/
theorem buffers_call (d : Dev nD) :
    (StableHlo.held (d.tc : Thread nD τ) (Pipeline.ucRefs τ sig) (atCall m d) : sProp 𝕄)
      ⊢ iprop((bigSep Finset.univ fun c : Fin ((K (F := F)).nCore 0) => (P m).st 0 d c)
        ∗ ((bigSep Finset.univ fun c : Fin ((K (F := F)).nCore 0) => (P m).dn 0 d c)
          -∗ StableHlo.held (d.tc : Thread nD τ) (Pipeline.ucRefs τ sig) (afterCall m d))) := by
  have hst : (bigSep Finset.univ fun c : Fin ((K (F := F)).nCore 0) => (P m).st 0 d c) = _ := (deal m d (m (oLoc d))).symm
  have hdn : (bigSep Finset.univ fun c : Fin ((K (F := F)).nCore 0) => (P m).dn 0 d c) = _ := (deal m d (rowsOf m d)).symm
  rw [hst, hdn, buffers, buffers, atCall_idx, atCall_of_ne m d (b := main_arg1) (by decide) (by decide), atCall_of_ne m d (b := main_v2) (by decide) (by decide),
    afterCall_of_ne m d (b := main_arg0) (by decide), afterCall_of_ne m d (b := main_arg1) (by decide), afterCall_of_ne m d (b := main_v0) (by decide),
    afterCall_of_ne m d (b := main_v1) (by decide), afterCall_of_ne m d (b := main_v3) (by decide), afterCall_of_ne m d (b := main_v4) (by decide),
    show afterCall m d (dev main_v2) = rowsOf m d from Function.update_self _ _ _, atCall_idx, atCall_of_ne m d (b := main_arg1) (by decide) (by decide)]
  iintro ⟨H0, H1, H2, H3, H4, H5, H6⟩
  isplitl [H1 H3 H4]
  · isplitl [H3]; · iexact H3
    isplitl [H1] <;> iassumption
  iintro ⟨H3, H1, H4⟩
  isplitl [H0]; · iexact H0
  isplitl [H1]; · iexact H1
  isplitl [H2]; · iexact H2
  isplitl [H3]; · iexact H3
  isplitl [H4]; · iexact H4
  isplitl [H5] <;> iassumption

/-- The buffers at the end hold the two arguments as they were, and the result. -/
theorem buffers_end (d : Dev nD) :
    (StableHlo.held (d.tc : Thread nD τ) (Pipeline.ucRefs τ sig) (atEnd m d) : sProp 𝕄) ⊢ FIN m d := by
  rw [buffers, atEnd_result, atEnd_of_ne m d (b := main_arg0) (by decide) (by decide) (by decide) (by decide) (by decide),
    atEnd_of_ne m d (b := main_arg1) (by decide) (by decide) (by decide) (by decide) (by decide)]
  iintro ⟨H0, H1, -, -, -, -, H6⟩
  isplitl [H0]; · iexact H0
  isplitl [H1] <;> iassumption

/-- One operation of the TensorCore's program, the buffers held at `V`. -/
theorem op_step (d : Dev nD) (op : HloOp τ sig (Elt F)) (hf : op.fresh = ∅) (hb : op.bufs ⊆ StableHlo.tcRefs τ sig) (V : Valuation τ sig (Elt F))
    {hp} {Q : PUnit → sProp 𝕄} :
    iprop(boundary (d.tc : Thread nD τ) ∗ StableHlo.held (d.tc : Thread nD τ) (Pipeline.ucRefs τ sig) V)
      ⊢ iprop((iprop(boundary (d.tc : Thread nD τ) ∗ StableHlo.held (d.tc : Thread nD τ) (Pipeline.ucRefs τ sig) (op.result V)) -∗ Q ⟨⟩)
        -∗ wp frame (wpE ((K (F := F)).defs (D (F := F))) 𝒱 (SparseCore.T d) none) Set.univ (hlo hp op fun _ => .ret ⟨⟩) Q) := by
  iintro H HQ
  iapply (StableHlo.wp_hlo_within 𝒱 (SparseCore.T d) none Set.univ (Pipeline.sub_ucRefs op hb) hf) $$ H
  iintro H
  irw [wp_ret]; imodintro
  iapply HQ; iexact H

/-- The TensorCore's program on device `d`, from the launch's buffers. -/
theorem main_runs (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = _ from Pipeline.unscopedBufs_held d (atLaunch m d)]
  simp only [main, wp_bind, wp_pure]
  iintro ⟨#Hctx, Hst, ⟨Hb, Hbufs, Hts, -⟩, -⟩
  iapply (op_step d opSwap rfl (StableHlo.unary_bufs_sub ..) (atLaunch m d)) $$ [Hb Hbufs]
  · isplitl [Hb] <;> iassumption
  iintro H
  iapply (op_step d opFlat rfl (StableHlo.reshape_bufs_sub ..) _) $$ H
  iintro ⟨Hb, Hbufs⟩
  ihave Hbufs := (buffers_call m d) $$ Hbufs
  icases Hbufs with ⟨Hin, Hback⟩
  iapply ((K (F := F)).wp_run (D (F := F)) 𝒱 (EH := EH) (P := P m) κ d 0) $$ [Hst Hin Hback Hb Hts]
  isplitr; · iexact Hctx
  isplitl [Hst]; · iexact Hst
  isplitl [Hin]; · iexact Hin
  iintro ⟨Hst, Hdn⟩
  ihave Hbufs := Hback $$ Hdn
  iapply (op_step d opFold rfl (StableHlo.reshape_bufs_sub ..) (afterCall m d)) $$ [Hb Hbufs]
  · isplitl [Hb] <;> iassumption
  iintro H
  iapply (op_step d opBack rfl (StableHlo.unary_bufs_sub ..) _) $$ H
  iintro ⟨Hb, Hbufs⟩
  imodintro
  isplitl [Hst]; · iexact Hst
  isplitl [Hbufs]; · iapply (buffers_end m d); iexact Hbufs
  isplitl [Hb] <;> iassumption

/-! ## The run -/

/-- What a final state is to satisfy on device `d`. -/
def Done (d : Dev nD) (s : MemSt nD τ sig (Elt F)) : Prop :=
  s.mem (xLoc d) = m (xLoc d) ∧ s.mem (tLoc d) = m (tLoc d) ∧ s.mem (rLoc d) = folded (rowsOf m d)

/-- A buffer held whole is what the memory holds. -/
theorem agree {ℓ : Loc nD τ sig} {f : Buf (Elt F) ℓ} {R : sProp 𝕄} {s : Phys nD τ sig (Elt F)} {φ : Prop}
    (h : s.mem.mem ℓ = f → iprop(R ∗ SI s) ⊢ (⌜φ⌝ : sProp 𝕄)) : iprop(((ℓ ↦{fullShare} f) ∗ R) ∗ SI s) ⊢ (⌜φ⌝ : sProp 𝕄) := by
  iintro ⟨⟨Hp, HR⟩, HSI⟩
  ihave H := (persistent_entails_right (SI_pointsTo_agree (st := s) (ℓ := ℓ) (I := Finset.univ) (q := fullShare) (f := f))) $$ [HSI Hp]
  · isplitl [HSI] <;> iassumption
  icases H with ⟨%e, HSI, -⟩
  iapply (h (funext fun i => e i (Finset.mem_univ i)))
  isplitl [HR] <;> iassumption

set_option maxRecDepth 16384 in
/-- A state whose memory holds the buffers of the end is one as `Done` says. -/
theorem done_of_fin (d : Dev nD) (s : Phys nD τ sig (Elt F)) : iprop(FIN m d ∗ SI s) ⊢ (⌜Done m d s.mem⌝ : sProp 𝕄) := by
  refine agree fun h0 => agree fun h1 => ?_
  iintro ⟨Hp, HSI⟩
  ihave H := (SI_pointsTo_agree (st := s) (ℓ := rLoc d) (I := Finset.univ) (q := fullShare) (f := folded (rowsOf m d))) $$ [HSI Hp]
  · isplitl [HSI] <;> iassumption
  icases H with %h2
  ipureintro
  exact ⟨h0, h1, funext fun i => h2 i (Finset.mem_univ i)⟩

/-- With every index in the table, the program runs to its end from any launch memory whose counters are zero: the
    arguments are unchanged, the result is the looked-up rows in the order of the indices, and every counter is zero. -/
theorem run [∀ e, Nonempty (Elt F e)] (hin : InTable m) :
    θ_run (Cert.KernelIdeal.defs (F := F)) (Cert.KernelIdeal.threads (F := F)) ⟨m, fun _ => 0, ρ⟩
      fun r => (∀ d, Done m d r.2) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tasks m hin)
    (fun q _ => match q with | 0 => SparseCore.Cfg.VecSplit.of_plain (shares m))
    m ρ main (fun _ => iprop(emp)) (FIN m) (u₀ (F := F)) (sep_elim_left.trans (ghost m)) (main_runs m ρ)
    (fun d s => Done m d s.mem) (done_of_fin m) _ (fun _ h hz => ⟨h, hz⟩)

end Call

end Cert.Proof.Lookup

end
-- ==== Proof.Value.lean ====
/-
  The two programs' results as functions of the indices and the table: what the precondition says of the indices, the kernel's
  result read at one element, the reference's result read at one element, and that the two are the same array.
-/
module

public import proofs.«01_k».proof.Proof.Launch
public import proofs.«01_k».proof.Proof.Gen.ReferenceIdeal.Run
public import proofs.«01_k».proof.Proof.Gen.Pre_in_range
public import Idealize.ShloMosaic.Lib.ReduceAll
public import Idealize.ShloMosaic.Lib.Pipeline.Value

@[expose] public section

noncomputable section

namespace Cert.Proof.Lookup

open Idealize.ShloMosaic Idealize.ShloMosaic.ValueIdx

variable {F : FTy → Type}

/-! ## What the precondition says of the indices -/

/-- A word that is at least 0 and less than 30 as a signed number is less than 30 as a natural number. -/
theorem toNat_lt_of_signed (w : BitVec 32) (h0 : (0 : Int) ≤ w.toInt) (h1 : w.toInt < 30) : w.toNat < 30 := by
  rw [BitVec.toInt_eq_toNat_cond] at h0 h1
  split at h0 <;> omega

/-- A word less than 30 is the same number read with a sign. -/
theorem toInt_of_lt (w : BitVec 32) (h : w.toNat < 30) : w.toInt = w.toNat := by
  rw [BitVec.toInt_eq_toNat_cond, if_pos (by omega)]

/-- If the range predicate holds of the indices, every one of them is less than 30. -/
theorem words_of_pre [FloatOps F] (x : IVec Cert.KernelIdeal.S1024x50 32) (t : FVec F Cert.KernelIdeal.S30x2048 .f32)
    (h : Cert.Pre_in_range.fn x t = fun _ => 1#1) (i : Cert.KernelIdeal.S1024x50.Idx) : (x i).toNat < 30 := by
  have : Subsingleton Cert.Pre_in_range.S_.Idx := ⟨fun a b => funext fun k => k.elim0⟩
  have e := Host.reduce_andi_all _ _ _ _ _ (congrFun h fun k => k.elim0) i
  obtain ⟨hge, hlt⟩ := IntOp.andi_eq_one.1 e
  exact toNat_lt_of_signed _ (IntOp.cmpi_sge.1 hge) (IntOp.cmpi_slt.1 hlt)

/-- Indices all less than 30 stay so when they are transposed and flattened. -/
theorem inTable_of_words (m : (ℓ : Loc Cert.KernelIdeal.nD Cert.KernelIdeal.τ Cert.KernelIdeal.sig) → Buf (Elt F) ℓ)
    (h : ∀ d (i : Cert.KernelIdeal.S1024x50.Idx), (m (xLoc d) i : BitVec 32).toNat < 30) : InTable m :=
  fun d _ => h d _

/-! ## The kernel's result at one element -/

/-- The flattened indices hold `x[b, l]` at position `1024 l + b`. -/
theorem flat_at (x : Cert.KernelIdeal.S1024x50.Idx → BitVec 32) (b : Fin 1024) (l : Fin 50) (h : 1024 * l.val + b.val < 51200) :
    flat x (ix1 ⟨1024 * l.val + b.val, h⟩) = x (ix2 b l) := by
  unfold flat
  rw [shapeCast_apply _ _ _ (ix2 l b) (by
    rw [Shape.rowMajor_val_two, Shape.rowMajor_val_one]
    show l.val * 1024 + b.val = 1024 * l.val + b.val
    omega)]
  exact transpose_apply _ _ _ _ _ fun a => match a with | ⟨0, _⟩ => rfl | ⟨1, _⟩ => rfl

/-- The kernel's result at `(b, l, c)` is the table's row `x[b, l]` at column `c`. -/
theorem kernel_at (x : Cert.KernelIdeal.S1024x50.Idx → BitVec 32) (t : Cert.KernelIdeal.S30x2048.Idx → F .f32)
    (b : Fin 1024) (l : Fin 50) (c : Fin 2048) :
    folded (looked (flat x) t) (ix3 b l c) = t (ix2 (rowOf (x (ix2 b l))) c) := by
  have hn : 1024 * l.val + b.val < 51200 := by omega
  unfold folded
  rw [transpose_apply _ _ _ _ (ix3 l b c) fun a => match a with | ⟨0, _⟩ => rfl | ⟨1, _⟩ => rfl | ⟨2, _⟩ => rfl,
    shapeCast_apply _ _ _ (ix2 ⟨1024 * l.val + b.val, hn⟩ c) (by
      rw [Shape.rowMajor_val_two, Shape.rowMajor_val_three]
      show (1024 * l.val + b.val) * 2048 + c.val = (l.val * 1024 + b.val) * 2048 + c.val
      omega)]
  show t (ix2 (rowOf (flat x (ix1 ⟨1024 * l.val + b.val, hn⟩))) c) = _
  rw [flat_at]

/-! ## The reference's result at one element -/

section Reference

open Cert.ReferenceIdeal Cert.ReferenceIdeal.Gen

/-- The indices as the reference looks them up: 30 added to the negative ones, one unit axis behind. -/
def wrapped (x : IVec S1024x50 32) : IVec S1024x50x1 32 :=
  broadcastInDim S1024x50x1 ![0, 1] bcast_S1024x50_S1024x50x1_0_1
    (select (cmpi .slt x (broadcastInDim S1024x50 ![] bcast_S_S1024x50 (constantI S_ 32 0#32)))
      (addi x (broadcastInDim S1024x50 ![] bcast_S_S1024x50 (constantI S_ 32 30#32))) x)

/-- Where the looked-up index lies in the table: 1 at each such place. -/
def inside (w : IVec S1024x50x1 32) : IVec S1024x50 1 :=
  Host.reduce IntOp.andi
    (andi (cmpi .sge w (broadcastInDim S1024x50x1 ![] bcast_S_S1024x50x1 (constantI S_ 32 0#32)))
      (cmpi .sle w (broadcastInDim S1024x50x1 ![0, 1, 2] bcast_S1x1x1_S1024x50x1_0_1_2
        (broadcastInDim S1x1x1 ![2] bcast_S1_S1x1x1_2 (constantI S1 32 29#32)))))
    (constantI S_ 1 1#1) reducesTo_S1024x50x1_S1024x50_d2 h_S_

/-- The reference's result: the gathered rows where the index lies in the table, and a NaN elsewhere. -/
def taken [FloatOps F] (x : IVec S1024x50 32) (t : FVec F S30x2048 .f32) : FVec F S1024x50x2048 .f32 :=
  select (broadcastInDim S1024x50x2048 ![0, 1] bcast_S1024x50_S1024x50x2048_0_1 (inside (wrapped x)))
    (Host.gather gather_S30x2048_S1024x50x1_S1024x50x2048_2_0_n_n_0_2_12048 t (wrapped x))
    (broadcastInDim S1024x50x2048 ![] bcast_S_S1024x50x2048 (constant S_ .f32 0x7FC00000#32))

/-- An index less than 30 is looked up as it is. -/
theorem wrapped_at (x : IVec S1024x50 32) (b : Fin 1024) (l : Fin 50) (u : Fin 1) (h : (x (ix2 b l)).toNat < 30) :
    wrapped x (ix3 b l u) = x (ix2 b l) := by
  unfold wrapped
  rw [broadcastInDim_apply _ _ _ _ (ix2 b l) fun a => match a with | ⟨0, _⟩ => rfl | ⟨1, _⟩ => rfl]
  refine if_neg fun hc => ?_
  have h0 : (x (ix2 b l)).toInt < 0 := IntOp.cmpi_slt.1 hc
  rw [toInt_of_lt _ h] at h0
  omega

/-- Indices all less than 30 all lie in the table. -/
theorem inside_at (x : IVec S1024x50 32) (hx : ∀ i, (x i).toNat < 30) (j : S1024x50.Idx) : inside (wrapped x) j = 1#1 := by
  unfold inside
  refine Host.reduce_andi_one _ _ _ _ _ rfl fun i => ?_
  obtain ⟨b, l, u, rfl⟩ : ∃ b l u, i = ix3 b l u := ⟨i 0, i 1, i 2, eq_ix3 i⟩
  have hw := wrapped_at x b l u (hx _)
  have hi := toInt_of_lt _ (hx (ix2 b l))
  have hl := hx (ix2 b l)
  refine IntOp.andi_eq_one.2 ⟨IntOp.cmpi_sge.2 ?_, IntOp.cmpi_sle.2 ?_⟩
  · show (0 : Int) ≤ (wrapped x (ix3 b l u)).toInt
    rw [hw, hi]; omega
  · show (wrapped x (ix3 b l u)).toInt ≤ 29
    rw [hw, hi]; omega

/-- The gather at `(b, l, c)` reads the table at the row its index names, clamped into the table, and at column `c`. -/
theorem gather_at {α : Type} (t : S30x2048.Idx → α) (w : IVec S1024x50x1 32) (b : Fin 1024) (l : Fin 50) (c : Fin 2048) :
    Host.gather gather_S30x2048_S1024x50x1_S1024x50x2048_2_0_n_n_0_2_12048 t w (ix3 b l c)
      = t (ix2 ⟨min (w (ix3 b l 0)).toInt.toNat 29, by omega⟩ c) := by
  set g := gather_S30x2048_S1024x50x1_S1024x50x2048_2_0_n_n_0_2_12048
  have hb : ∀ a, g.batchCoord (ix3 b l c) a = 0 := fun a => g.batchCoord_eq_zero _ _ List.not_mem_nil
  unfold Host.gather
  refine congrArg t (funext fun a => Fin.ext ?_)
  match a with
  | ⟨0, _⟩ =>
    have hm : (0 : Fin 2) ∈ g.startIndexMap := List.mem_singleton.2 rfl
    have ho : g.offCoord (ix3 b l c) (0 : Fin 2) = 0 :=
      g.offCoord_eq_zero _ _ fun h => ((g.mem_sKept _).1 h).1 (List.mem_singleton.2 rfl)
    have hi : g.siIdx (ix3 b l c) ⟨g.startIndexMap.idxOf (0 : Fin 2), List.idxOf_lt_length_iff.2 hm⟩ = ix3 b l 0 :=
      funext fun k => Fin.ext (match k with | ⟨0, _⟩ => rfl | ⟨1, _⟩ => rfl | ⟨2, _⟩ => rfl)
    show g.start (ix3 b l c) w (0 : Fin 2) + g.batchCoord (ix3 b l c) (0 : Fin 2) + g.offCoord (ix3 b l c) (0 : Fin 2) = _
    rw [hb, ho, Nat.add_zero]
    unfold GatherDims.start
    rw [dif_pos hm, hi]
    rfl
  | ⟨1, _⟩ =>
    have hm : (1 : Fin 2) ∉ g.startIndexMap := (by decide : (1 : Fin 2) ∉ [(0 : Fin 2)])
    have hs : g.start (ix3 b l c) w (1 : Fin 2) = 0 := by unfold GatherDims.start; exact dif_neg hm
    show g.start (ix3 b l c) w (1 : Fin 2) + g.batchCoord (ix3 b l c) (1 : Fin 2) + g.offCoord (ix3 b l c) (1 : Fin 2) = _
    rw [hb, hs, Nat.zero_add]
    rfl

/-- The reference's result at `(b, l, c)` is the table's row `x[b, l]` at column `c`, when every index is less than 30. -/
theorem taken_at [FloatOps F] (x : IVec S1024x50 32) (t : FVec F S30x2048 .f32) (hx : ∀ i, (x i).toNat < 30)
    (b : Fin 1024) (l : Fin 50) (c : Fin 2048) : taken x t (ix3 b l c) = t (ix2 (rowOf (x (ix2 b l))) c) := by
  have hm : broadcastInDim S1024x50x2048 ![0, 1] bcast_S1024x50_S1024x50x2048_0_1 (inside (wrapped x)) (ix3 b l c) = 1#1 := by
    rw [broadcastInDim_apply _ _ _ _ (ix2 b l) fun a => match a with | ⟨0, _⟩ => rfl | ⟨1, _⟩ => rfl]
    exact inside_at x hx _
  unfold taken select Scalar.select
  rw [if_pos (by exact hm), gather_at]
  refine congrArg (fun r => t (ix2 r c)) (Fin.ext ?_)
  have h := hx (ix2 b l)
  rw [rowOf_val h]
  show min (wrapped x (ix3 b l 0)).toInt.toNat 29 = _
  rw [wrapped_at x b l 0 h, toInt_of_lt _ h]
  omega

end Reference

/-- For indices less than 30 the kernel's result and the reference's are the same array. -/
theorem kernel_eq_taken [FloatOps F] (x : IVec Cert.KernelIdeal.S1024x50 32) (t : FVec F Cert.KernelIdeal.S30x2048 .f32)
    (hx : ∀ i, (x i).toNat < 30) : folded (looked (flat x) t) = taken x t := by
  funext j
  obtain ⟨b, l, c, rfl⟩ : ∃ b l c, j = ix3 b l c := ⟨j 0, j 1, j 2, eq_ix3 j⟩
  rw [kernel_at, taken_at x t hx]

end Cert.Proof.Lookup

end
-- ==== Proof.lean ====
/-
  The proof of `Cert.Claim`: the kernel runs in either reading, leaves its arguments unchanged and every semaphore counter at
  zero, the reference does too, and the two end with the same array, for indices that name rows of the table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem
open Cert.Proof.Lookup

/-- The kernel at the machine's floats runs, leaves its arguments unchanged and every counter at zero. -/
theorem frame_kernel : Cert.quiescent_Kernel := fun m g h =>
  (θ_run Cert.KernelIdeal.defs _ _).mono (fun _ r => ⟨fun c => ⟨(r.1 c).1, (r.1 c).2.1⟩, r.2⟩)
    (run (F := Bits) m g (inTable_of_words m fun d => words_of_pre _ _ (h d)))

/-- The kernel at the extended reals runs, leaves its arguments unchanged and every counter at zero. -/
theorem frame_ideal : Cert.quiescent_KernelIdeal := fun m g h =>
  (θ_run Cert.KernelIdeal.defs _ _).mono (fun _ r => ⟨fun c => ⟨(r.1 c).1, (r.1 c).2.1⟩, r.2⟩)
    (run (F := Ideal) m g (inTable_of_words m fun d => words_of_pre _ _ (h d)))

/-- The reference runs, leaves its arguments unchanged and every counter at zero: it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- For indices that name rows of the table the kernel and the reference, at the extended reals, end with the same array. -/
theorem same_result : Cert.algebraic_KernelIdeal_ReferenceIdeal := fun m g m' g' h hm => by
  have hw := fun d => words_of_pre _ _ (h d)
  refine ⟨fun c => folded (F := Ideal) (rowsOf m c), ?_, ?_⟩
  · exact (θ_run Cert.KernelIdeal.defs _ _).mono (fun _ r c => ⟨(r.1 c).2.2, (r.1 c).1, (r.1 c).2.1⟩)
      (run (F := Ideal) m g (inTable_of_words m hw))
  refine (θ_run Cert.ReferenceIdeal.defs _ _).mono (fun _ r c => ⟨(r c).1.trans ?_, (r c).2⟩)
    (Cert.ReferenceIdeal.Value.run (F := Ideal) m' g')
  rw [(hm c).1, (hm c).2]
  exact (kernel_eq_taken (F := Ideal) (m (xLoc c)) (m (tLoc c)) (hw c)).symm

/-- Everything claimed. -/
theorem claim : Cert.Claim :=
  ⟨Cert.Kernel.Gen.facts, Cert.KernelIdeal.Gen.facts, Cert.ReferenceIdeal.Gen.facts, Cert.Pre_in_range.Gen.facts,
    frame_kernel, frame_ideal, frame_reference, fun m g _ => frame_reference m g trivial, trivial, same_result⟩

end Cert.Proof

end
